-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_lens_fit [hPre_lens_fit : Cert.Pre_lens_fit.Facts] (m : (ℓ : Loc Cert.KernelIdeal.nD Cert.KernelIdeal.τ Cert.KernelIdeal.sig) → Buf (Elt Ideal) ℓ) : Prop :=
  ∀ c : Dev Cert.KernelIdeal.nD,
    (Cert.Pre_lens_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_lens_fit [hPre_lens_fit : Cert.Pre_lens_fit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_lens_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_lens_fit [hKernelIdeal : Cert.KernelIdeal.Facts] [hPre_lens_fit : Cert.Pre_lens_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_lens_fit m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_lens_fit [hReferenceIdeal : Cert.ReferenceIdeal.Facts] [hPre_lens_fit : Cert.Pre_lens_fit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_lens_fit m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_lens_fit [hKernelIdeal : Cert.KernelIdeal.Facts] [hReferenceIdeal : Cert.ReferenceIdeal.Facts] [hPre_lens_fit : Cert.Pre_lens_fit.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_lens_fit m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_v42) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_lens_fit : Cert.Pre_lens_fit.Facts),
    quiescent_Kernel (hKernel := hKernel)
    ∧ quiescent_KernelIdeal (hKernelIdeal := hKernelIdeal)
    ∧ quiescent_KernelIdeal_pre_lens_fit (hKernelIdeal := hKernelIdeal) (hPre_lens_fit := hPre_lens_fit)
    ∧ quiescent_ReferenceIdeal (hReferenceIdeal := hReferenceIdeal)
    ∧ quiescent_ReferenceIdeal_pre_lens_fit (hReferenceIdeal := hReferenceIdeal) (hPre_lens_fit := hPre_lens_fit)
    ∧ preserves_Kernel_KernelIdeal
    ∧ algebraic_KernelIdeal_ReferenceIdeal_pre_lens_fit (hKernelIdeal := hKernelIdeal) (hReferenceIdeal := hReferenceIdeal) (hPre_lens_fit := hPre_lens_fit)
-- ==== Pre_lens_fit.lean ====
abbrev S12x2048x3584 : Shape := ⟨3, ![12, 2048, 3584]⟩
abbrev S12x2048 : Shape := ⟨2, ![12, 2048]⟩
abbrev S3584x64 : Shape := ⟨2, ![3584, 64]⟩
abbrev S12x2048x8 : Shape := ⟨3, ![12, 2048, 8]⟩
abbrev S12 : Shape := ⟨1, ![12]⟩
abbrev S_ : Shape := ⟨0, ![]⟩

class Facts : Prop where
  bcast_S_S12 : S_.BroadcastsInDim S12 (![] : Fin 0 → Fin S12.rank)

variable [Facts]

def fn {F : FTy → Type} [FloatOps F] (main_arg0 : FVec F S12x2048x3584 .fp8e4m3) (main_arg1 : FVec F S12x2048 .f32) (main_arg2 : FVec F S3584x64 .bf16) (main_arg3 : IVec S12x2048x8 32) (main_arg4 : FVec F S12x2048x8 .bf16) (main_arg5 : IVec S12 32) : IVec S12 1 :=
  let main_c : IVec S_ 32 := constantI S_ 32 2147483136#32
  let main_v0 : IVec S12 32 := broadcastInDim S12 ![] bcast_S_S12 main_c
  let main_v1 : IVec S12 1 := cmpi .sle main_arg5 main_v0
  main_v1
-- ==== Kernel.lean ====
abbrev S12x2048x3584 : Shape := ⟨3, ![12, 2048, 3584]⟩
abbrev S12x2048 : Shape := ⟨2, ![12, 2048]⟩
abbrev S3584x64 : Shape := ⟨2, ![3584, 64]⟩
abbrev S12x2048x8 : Shape := ⟨3, ![12, 2048, 8]⟩
abbrev S12 : Shape := ⟨1, ![12]⟩
abbrev S64x3584 : Shape := ⟨2, ![64, 3584]⟩
abbrev S12x8x2048 : Shape := ⟨3, ![12, 8, 2048]⟩
abbrev S12x64x2048 : Shape := ⟨3, ![12, 64, 2048]⟩
abbrev S1x512x3584 : Shape := ⟨3, ![1, 512, 3584]⟩
abbrev S1 : Shape := ⟨1, ![1]⟩
abbrev S1x8x512 : Shape := ⟨3, ![1, 8, 512]⟩
abbrev S1x64x512 : Shape := ⟨3, ![1, 64, 512]⟩
abbrev S512x3584 : Shape := ⟨2, ![512, 3584]⟩
abbrev S1x512 : Shape := ⟨2, ![1, 512]⟩
abbrev S8x512 : Shape := ⟨2, ![8, 512]⟩
abbrev S64x512 : Shape := ⟨2, ![64, 512]⟩
abbrev S512 : Shape := ⟨1, ![512]⟩
abbrev S512x64 : Shape := ⟨2, ![512, 64]⟩
abbrev S12x2048x64 : Shape := ⟨3, ![12, 2048, 64]⟩

abbrev nBuf : Space → Nat
  | .hbm => 13
  | .vmem => 13
  | .smem => 1
  | _ => 0

abbrev bufTy : (tb : Table) → Fin (tcTables nBuf tb) → BufTy
  | .hbm, ⟨0, _⟩ => ⟨S12x2048x3584, .fp8e4m3⟩
  | .hbm, ⟨1, _⟩ => ⟨S12x2048, .f32⟩
  | .hbm, ⟨2, _⟩ => ⟨S3584x64, .bf16⟩
  | .hbm, ⟨3, _⟩ => ⟨S12x2048x8, .i32⟩
  | .hbm, ⟨4, _⟩ => ⟨S12x2048x8, .bf16⟩
  | .hbm, ⟨5, _⟩ => ⟨S64x3584, .bf16⟩
  | .hbm, ⟨6, _⟩ => ⟨S12x8x2048, .i32⟩
  | .hbm, ⟨7, _⟩ => ⟨S12x8x2048, .bf16⟩
  | .hbm, ⟨8, _⟩ => ⟨S12x2048x3584, .bf16⟩
  | .hbm, ⟨9, _⟩ => ⟨S64x3584, .f32⟩
  | .hbm, ⟨10, _⟩ => ⟨S12x64x2048, .f32⟩
  | .hbm, ⟨11, _⟩ => ⟨S3584x64, .f32⟩
  | .hbm, ⟨12, _⟩ => ⟨S12x2048x64, .f32⟩
  | .local _ .vmem, ⟨0, _⟩ => ⟨S1x512x3584, .fp8e4m3⟩
  | .local _ .vmem, ⟨1, _⟩ => ⟨S1x512x3584, .fp8e4m3⟩
  | .local _ .vmem, ⟨2, _⟩ => ⟨S12x2048, .f32⟩
  | .local _ .vmem, ⟨3, _⟩ => ⟨S64x3584, .bf16⟩
  | .local _ .vmem, ⟨4, _⟩ => ⟨S1x8x512, .i32⟩
  | .local _ .vmem, ⟨5, _⟩ => ⟨S1x8x512, .i32⟩
  | .local _ .vmem, ⟨6, _⟩ => ⟨S1x8x512, .bf16⟩
  | .local _ .vmem, ⟨7, _⟩ => ⟨S1x8x512, .bf16⟩
  | .local _ .vmem, ⟨8, _⟩ => ⟨S1x512x3584, .bf16⟩
  | .local _ .vmem, ⟨9, _⟩ => ⟨S1x512x3584, .bf16⟩
  | .local _ .vmem, ⟨10, _⟩ => ⟨S64x3584, .f32⟩
  | .local _ .vmem, ⟨11, _⟩ => ⟨S1x64x512, .f32⟩
  | .local _ .vmem, ⟨12, _⟩ => ⟨S1x64x512, .f32⟩
  | .local _ .smem, ⟨0, _⟩ => ⟨S12, .i32⟩
  | _, _ => ⟨S12x2048x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v4 : Ref sig .tc := ⟨.hbm, 11, rfl⟩
abbrev main_v5 : Ref sig .tc := ⟨.hbm, 12, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![12, 4], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_off2 (i : grid0.Coords) : Fin 2 → Nat :=
  let arg0 : BitVec 32 := BitVec.ofNat 32 (i 0).val
  let v19 : Index := Scalar.indexCast arg0
  let arg1 : BitVec 32 := BitVec.ofNat 32 (i 1).val
  let c512_i32 : BitVec 32 := 512#32
  let v0 : BitVec 32 := Scalar.muli arg1 c512_i32
  let v18 : BitVec 32 := v0
  let v20 : Index := Scalar.indexCast v18
  ![v19.toNat, v20.toNat]
def k0_cond2 (i : grid0.Coords) (v2 : BitVec 32) : BitVec 1 :=
  let arg1 : BitVec 32 := BitVec.ofNat 32 (i 1).val
  let c512_i32 : BitVec 32 := 512#32
  let v0 : BitVec 32 := Scalar.muli arg1 c512_i32
  let v8 : BitVec 1 := Scalar.cmpi .sge v0 v2
  let v9 : BitVec 32 := Scalar.extui v8
  let c0_i32_2 : BitVec 32 := 0#32
  let v10 : BitVec 1 := Scalar.cmpi .ne v9 c0_i32_2
  v10

def k0_cond3 (i : grid0.Coords) (v2 : BitVec 32) : BitVec 1 :=
  let arg1 : BitVec 32 := BitVec.ofNat 32 (i 1).val
  let c512_i32 : BitVec 32 := 512#32
  let v0 : BitVec 32 := Scalar.muli arg1 c512_i32
  let v11 : BitVec 1 := Scalar.cmpi .slt v0 v2
  let v12 : BitVec 32 := Scalar.extui v11
  let c0_i32_3 : BitVec 32 := 0#32
  let v13 : BitVec 1 := Scalar.cmpi .ne v12 c0_i32_3
  v13

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let arg1 : BitVec 32 := BitVec.ofNat 32 (i 1).val
  let c0_i32_0 : BitVec 32 := 0#32
  let v4 : BitVec 1 := Scalar.cmpi .eq arg1 c0_i32_0
  let v5 : BitVec 1 := Scalar.andi v3 v4
  let v6 : BitVec 32 := Scalar.extui v5
  let c0_i32_1 : BitVec 32 := 0#32
  let v7 : BitVec 1 := Scalar.cmpi .ne v6 c0_i32_1
  v7

def cc0_transform_0 (k0_off1_inb : ∀ i : grid0.Coords, ∀ a, (k0_off1 i) a + S1.size a ≤ S12.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S12) ![v0.toNat] S1.size (k0_off1_inb i)) numel1_S1
  let c512_i32 : BitVec 32 := 512#32
  let v2 : BitVec 32 := Scalar.addi v1 c512_i32
  let c1_i32 : BitVec 32 := 1#32
  let v3 : BitVec 32 := Scalar.subi v2 c1_i32
  let c512_i32_0 : BitVec 32 := 512#32
  let v4 : BitVec 32 := Scalar.divsi v3 c512_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c512_i32_0 c0_i32_2
  let v11 : BitVec 32 := Scalar.extui v10
  let c0_i32_3 : BitVec 32 := 0#32
  let v12 : BitVec 1 := Scalar.cmpi .slt c512_i32_0 c0_i32_3
  let v13 : BitVec 32 := Scalar.extui v12
  let v14 : BitVec 32 := Scalar.subi v11 v13
  let v15 : BitVec 1 := Scalar.cmpi .ne v9 v14
  let v16 : BitVec 32 := Scalar.remsi v3 c512_i32_0
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.subi v20 c1_i32_6
  let c0_i32_7 : BitVec 32 := 0#32
  let v22 : BitVec 32 := Scalar.maxsi v21 c0_i32_7
  let v23 : BitVec 32 := Scalar.minsi arg1 v22
  let c0_i32_8 : BitVec 32 := 0#32
  let c0_i32_9 : BitVec 32 := 0#32
  ![arg0.toNat, v23.toNat, c0_i32_8.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x3584 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S12x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x8x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x3584 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S64x3584 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S12x2048x3584 : Shape := ⟨3, ![12, 2048, 3584]⟩
abbrev S12x2048 : Shape := ⟨2, ![12, 2048]⟩
abbrev S3584x64 : Shape := ⟨2, ![3584, 64]⟩
abbrev S12x2048x8 : Shape := ⟨3, ![12, 2048, 8]⟩
abbrev S12 : Shape := ⟨1, ![12]⟩
abbrev S12x2048x64 : Shape := ⟨3, ![12, 2048, 64]⟩
abbrev S12x2048x1 : Shape := ⟨3, ![12, 2048, 1]⟩
abbrev S12x2048x8x1 : Shape := ⟨4, ![12, 2048, 8, 1]⟩
abbrev S64 : Shape := ⟨1, ![64]⟩
abbrev S1x1x1x64 : Shape := ⟨4, ![1, 1, 1, 64]⟩
abbrev S12x2048x8x64 : Shape := ⟨4, ![12, 2048, 8, 64]⟩
abbrev S12x2048x1x64 : Shape := ⟨4, ![12, 2048, 1, 64]⟩
abbrev S_ : Shape := ⟨0, ![]⟩
abbrev S2048 : Shape := ⟨1, ![2048]⟩
abbrev S1x2048 : Shape := ⟨2, ![1, 2048]⟩
abbrev S12x1 : Shape := ⟨2, ![12, 1]⟩

abbrev nBuf : Space → Nat
  | .hbm => 75
  | .vmem => 2
  | .smem => 0
  | _ => 0

abbrev bufTy : (tb : Table) → Fin (tcTables nBuf tb) → BufTy
  | .hbm, ⟨0, _⟩ => ⟨S12x2048x3584, .fp8e4m3⟩
  | .hbm, ⟨1, _⟩ => ⟨S12x2048, .f32⟩
  | .hbm, ⟨2, _⟩ => ⟨S3584x64, .bf16⟩
  | .hbm, ⟨3, _⟩ => ⟨S12x2048x8, .i32⟩
  | .hbm, ⟨4, _⟩ => ⟨S12x2048x8, .bf16⟩
  | .hbm, ⟨5, _⟩ => ⟨S12, .i32⟩
  | .hbm, ⟨6, _⟩ => ⟨S12x2048x3584, .bf16⟩
  | .hbm, ⟨7, _⟩ => ⟨S12x2048x64, .f32⟩
  | .hbm, ⟨8, _⟩ => ⟨S12x2048x1, .f32⟩
  | .hbm, ⟨9, _⟩ => ⟨S12x2048x64, .f32⟩
  | .hbm, ⟨10, _⟩ => ⟨S12x2048x64, .f32⟩
  | .hbm, ⟨11, _⟩ => ⟨S12x2048x8x1, .i32⟩
  | .hbm, ⟨12, _⟩ => ⟨S64, .i32⟩
  | .hbm, ⟨13, _⟩ => ⟨S1x1x1x64, .i32⟩
  | .hbm, ⟨14, _⟩ => ⟨S12x2048x8x64, .i32⟩
  | .hbm, ⟨15, _⟩ => ⟨S12x2048x8x64, .i32⟩
  | .hbm, ⟨16, _⟩ => ⟨S12x2048x8x64, .i1⟩
  | .hbm, ⟨17, _⟩ => ⟨S12x2048x1x64, .f32⟩
  | .hbm, ⟨18, _⟩ => ⟨S_, .f32⟩
  | .hbm, ⟨19, _⟩ => ⟨S_, .f32⟩
  | .hbm, ⟨20, _⟩ => ⟨S12x2048x8x64, .f32⟩
  | .hbm, ⟨21, _⟩ => ⟨S12x2048x8x64, .f32⟩
  | .hbm, ⟨22, _⟩ => ⟨S12x2048x8x64, .f32⟩
  | .hbm, ⟨23, _⟩ => ⟨S_, .f32⟩
  | .hbm, ⟨24, _⟩ => ⟨S12x2048x8, .f32⟩
  | .hbm, ⟨25, _⟩ => ⟨S_, .f32⟩
  | .hbm, ⟨26, _⟩ => ⟨S12x2048, .f32⟩
  | .hbm, ⟨27, _⟩ => ⟨S_, .f32⟩
  | .hbm, ⟨28, _⟩ => ⟨S12x2048, .f32⟩
  | .hbm, ⟨29, _⟩ => ⟨S12x2048, .f32⟩
  | .hbm, ⟨30, _⟩ => ⟨S12x2048x1, .f32⟩
  | .hbm, ⟨31, _⟩ => ⟨S12x2048x8, .f32⟩
  | .hbm, ⟨32, _⟩ => ⟨S12x2048x8, .f32⟩
  | .hbm, ⟨33, _⟩ => ⟨S12x2048x8, .f32⟩
  | .hbm, ⟨34, _⟩ => ⟨S_, .f32⟩
  | .hbm, ⟨35, _⟩ => ⟨S12x2048, .f32⟩
  | .hbm, ⟨36, _⟩ => ⟨S12x2048x1, .f32⟩
  | .hbm, ⟨37, _⟩ => ⟨S12x2048x8, .f32⟩
  | .hbm, ⟨38, _⟩ => ⟨S12x2048x8, .f32⟩
  | .hbm, ⟨39, _⟩ => ⟨S12x2048x8, .f32⟩
  | .hbm, ⟨40, _⟩ => ⟨S12x2048x8, .f32⟩
  | .hbm, ⟨41, _⟩ => ⟨S_, .f32⟩
  | .hbm, ⟨42, _⟩ => ⟨S12x2048, .f32⟩
  | .hbm, ⟨43, _⟩ => ⟨S12x2048x1, .f32⟩
  | .hbm, ⟨44, _⟩ => ⟨S2048, .i32⟩
  | .hbm, ⟨45, _⟩ => ⟨S1x2048, .i32⟩
  | .hbm, ⟨46, _⟩ => ⟨S12x1, .i32⟩
  | .hbm, ⟨47, _⟩ => ⟨S12x2048, .i32⟩
  | .hbm, ⟨48, _⟩ => ⟨S12x2048, .i32⟩
  | .hbm, ⟨49, _⟩ => ⟨S12x2048, .i1⟩
  | .hbm, ⟨50, _⟩ => ⟨S12x2048x1, .i1⟩
  | .hbm, ⟨51, _⟩ => ⟨S12x2048x8, .f32⟩
  | .hbm, ⟨52, _⟩ => ⟨S12x2048x8, .f32⟩
  | .hbm, ⟨53, _⟩ => ⟨S12x2048x8, .f32⟩
  | .hbm, ⟨54, _⟩ => ⟨S_, .f32⟩
  | .hbm, ⟨55, _⟩ => ⟨S_, .f32⟩
  | .hbm, ⟨56, _⟩ => ⟨S12x2048x8, .i1⟩
  | .hbm, ⟨57, _⟩ => ⟨S12x2048x8, .f32⟩
  | .hbm, ⟨58, _⟩ => ⟨S12x2048x8, .f32⟩
  | .hbm, ⟨59, _⟩ => ⟨S12x2048x8x1, .f32⟩
  | .hbm, ⟨60, _⟩ => ⟨S_, .f32⟩
  | .hbm, ⟨61, _⟩ => ⟨S_, .f32⟩
  | .hbm, ⟨62, _⟩ => ⟨S12x2048x8x64, .f32⟩
  | .hbm, ⟨63, _⟩ => ⟨S12x2048x8x64, .f32⟩
  | .hbm, ⟨64, _⟩ => ⟨S12x2048x8x64, .f32⟩
  | .hbm, ⟨65, _⟩ => ⟨S_, .f32⟩
  | .hbm, ⟨66, _⟩ => ⟨S12x2048x64, .f32⟩
  | .hbm, ⟨67, _⟩ => ⟨S12x2048x64, .bf16⟩
  | .hbm, ⟨68, _⟩ => ⟨S12x2048x3584, .f32⟩
  | .hbm, ⟨69, _⟩ => ⟨S12x2048x3584, .bf16⟩
  | .hbm, ⟨70, _⟩ => ⟨S12x2048x1, .f32⟩
  | .hbm, ⟨71, _⟩ => ⟨S12x2048x1, .bf16⟩
  | .hbm, ⟨72, _⟩ => ⟨S12x2048x64, .bf16⟩
  | .hbm, ⟨73, _⟩ => ⟨S12x2048x64, .bf16⟩
  | .hbm, ⟨74, _⟩ => ⟨S3584x64, .f32⟩
  | .local _ .vmem, ⟨0, _⟩ => ⟨S12x2048x3584, .fp8e4m3⟩
  | .local _ .vmem, ⟨1, _⟩ => ⟨S12x2048x3584, .bf16⟩
  | _, _ => ⟨S12x2048x3584, .fp8e4m3⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_5 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v39 : Ref sig .tc := ⟨.hbm, 58, rfl⟩
abbrev main_v40 : Ref sig .tc := ⟨.hbm, 59, rfl⟩
abbrev main_cst_6 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_v41 : Ref sig .tc := ⟨.hbm, 64, rfl⟩
abbrev main_cst_7 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S12x2048x3584 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12x2048x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.KernelKit.lean ====
module

public import proofs.«01_k».proof.Proof.Gen.Kernel.Launch
public import Idealize.ShloMosaic.Lib.Pipeline.FrameBody
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp

/-! The kernel's run, first part: the block of `x` each grid point reads (for any table of lengths it lies inside
    `x`), the table the region is entered with, the host lines around the region, and each input window's block. -/

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! ## The block of `x` at a grid point -/

/-- The smaller of a step number and a number that is at least zero, signed, is at most the step number. -/
theorem min_max_le (n : ℕ) (hn : n < 4) (z : BitVec 32) :
    (Scalar.minsi (BitVec.ofNat 32 n) (Scalar.maxsi z 0#32)).toNat ≤ n := by
  have e : (BitVec.ofNat 32 n).toNat = n := by rw [BitVec.toNat_ofNat]; omega
  have en : (BitVec.ofNat 32 n).toInt = (n : ℤ) := by
    rw [BitVec.toInt_eq_toNat_cond, e, if_pos (by omega)]
  unfold Scalar.minsi IntOp.minsi
  split
  · exact e.le
  · next h =>
    rw [BitVec.slt_iff_toInt_lt, en, not_lt] at h
    have h0 : 0 ≤ (Scalar.maxsi z 0#32).toInt := by
      unfold Scalar.maxsi IntOp.maxsi
      split
      · next h => rw [BitVec.slt_iff_toInt_lt] at h; exact h.le
      · exact le_refl _
    rw [BitVec.toInt_eq_toNat_cond] at h h0
    split at h <;> split at h0 <;> omega

/-- The block index of `x` along the steps at point `i`, when the sequence's length is `z`. -/
def xstep (n : ℕ) (z : BitVec 32) : BitVec 32 :=
  Scalar.minsi (BitVec.ofNat 32 n) (Scalar.maxsi (Scalar.subi
    (Scalar.select (Scalar.andi
        (Scalar.cmpi .ne
          (Scalar.subi (Scalar.extui (Scalar.cmpi .sgt (Scalar.subi (Scalar.addi z 512#32) 1#32) 0#32))
            (Scalar.extui (Scalar.cmpi .slt (Scalar.subi (Scalar.addi z 512#32) 1#32) 0#32)))
          (Scalar.subi (Scalar.extui (Scalar.cmpi .sgt 512#32 0#32)) (Scalar.extui (Scalar.cmpi .slt 512#32 0#32))))
        (Scalar.cmpi .ne (Scalar.remsi (Scalar.subi (Scalar.addi z 512#32) 1#32) 512#32) 0#32))
      (Scalar.subi (Scalar.divsi (Scalar.subi (Scalar.addi z 512#32) 1#32) 512#32) 1#32)
      (Scalar.divsi (Scalar.subi (Scalar.addi z 512#32) 1#32) 512#32)) 1#32) 0#32)

/-- The table's word for the sequence of point `i`. -/
def word (pf : pre0.Contents (Elt F)) (i : grid0.Coords) : BitVec 32 :=
  pf.at 0 (Rect.unit (s := S12) (k0_off1 i) S1.size (Gen.k0_off1_inb i)) Gen.numel1_S1

omit [FloatOps F] in
theorem xmap_eq [FloatOps F] (pf : pre0.Contents (Elt F)) (i : grid0.Coords) :
    cc0_transform_0 Gen.k0_off1_inb Gen.numel1_S1 pf i
      = ![(i 0).val, (xstep (i 1).val (word pf i)).toNat, 0] := by
  have h0 : (i 0).val < 12 := (i 0).isLt
  show ![(BitVec.ofNat 32 (i 0).val).toNat, (xstep (i 1).val (word pf i)).toNat, (0#32).toNat] = _
  rw [BitVec.toNat_ofNat, Nat.mod_eq_of_lt (by omega)]
  rfl

theorem xstep_le (n : ℕ) (hn : n < 4) (z : BitVec 32) : (xstep n z).toNat ≤ n := min_max_le n hn _

/-- Whatever the lengths are, every block of `x` lies inside it and moves whole words. -/
theorem ok_all (pf : pre0.Contents (Elt F)) : ok0 pf := by
  intro i
  have h0 : (i 0).val < 12 := (i 0).isLt
  have h1 : (i 1).val < 4 := (i 1).isLt
  have hx := xstep_le (i 1).val h1 (word pf i)
  refine ⟨?_, .inr (Affine.block_words_dvd (of_decide_eq_true rfl) (by decide))⟩
  intro a
  rw [xmap_eq]
  fin_cases a
  · show ((i 0).val + 1) * 1 ≤ 12; omega
  · show ((xstep (i 1).val (word pf i)).toNat + 1) * 512 ≤ 2048; omega
  · show (0 + 1) * 3584 ≤ 3584; omega

variable (m : (ℓ : Loc nD τ sig) → Buf (Elt F) ℓ) (ρ : Dev nD → PrngReg)

/-- The table of lengths as launched, -/
def pf0 : pre0.Contents (Elt F) := fun k => m ((((0 : Dev nD)) : Thread nD τ).loc (pre0.ref k))

/-- an admissible one, as every table is. -/
def adm : (pcfg0 (F := F)).Adm := ⟨pf0 m, ok_all _⟩

/-- The pipeline at it, -/
abbrev cfgA : Pipeline.Cfg sig Λ₀ := cfg0 (adm m)
/-- as the one pipeline of @main. -/
abbrev pcs : Fin 1 → Pipeline.Cfg sig Λ₀ := Pipeline.pin pcfgs fun _ => adm m

/-! ## @main around the region -/

/-- Core `c`'s buffer contents when the region is entered. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main is the host lines before the region, the region, and the host lines after it. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain ([hostOps1].map StableHlo.seq)) :=
  Pipeline.hmainP_around pcfgs 0 defs₀ 𝒱₀ m main [hostOps0] [hostOps1] (by simp only [List.Forall]; exact hostOps0_sub)
    (by simp only [List.Forall]; exact hostOps0_fresh) main_chain

/-- The lines after the region touch the pipeline's arrays and the buffers it passes by, not the table. -/
theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  refine Pipeline.sub_tailRefs _ _ op ((List.forall_iff_forall_mem.mp hostOps1_sub) op hop) ?_
  intro k
  simp only [hostOps1, List.mem_cons, List.mem_nil_iff, or_false] at hop
  rcases hop with rfl | rfl
  all_goals
    fin_cases k
    simp only [StableHlo.unary_bufs, Finset.mem_insert, Finset.mem_singleton, not_or]
    exact ⟨StableHlo.devRef_ne_of_ne (by decide), StableHlo.devRef_ne_of_ne (by decide)⟩

/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.unary_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))

/-- The region is entered with the table of lengths as launched. -/
theorem hpf (c : Dev nD) (k : Fin pre0.K) : V0 m c (Proc.devRef .tc (pre0.ref k)) = (adm m).1 k := by
  fin_cases k
  have hc : c = 0 := Subsingleton.elim _ _
  subst hc
  exact V_main_arg5 m 0

/-- No host operation after the region writes `main_arg2`: it ends as launched. -/
theorem W_main_arg2 (dats : (p : Fin 1) → (c : Dev nD) → Dat τ (Elt F) Unit ℕ (UR sig nD τ) ℕ (pcs m p) c) (c : Dev nD) :
    Pipeline.afterTail pcfgs (fun _ => adm m) dats 0 (V0 m) [hostOps1] c main_arg2 = m ((c : Thread nD τ).loc main_arg2) := by
  unfold Pipeline.afterTail
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes `main_arg3`: it ends as launched. -/
theorem W_main_arg3 (dats : (p : Fin 1) → (c : Dev nD) → Dat τ (Elt F) Unit ℕ (UR sig nD τ) ℕ (pcs m p) c) (c : Dev nD) :
    Pipeline.afterTail pcfgs (fun _ => adm m) dats 0 (V0 m) [hostOps1] c main_arg3 = m ((c : Thread nD τ).loc main_arg3) := by
  unfold Pipeline.afterTail
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host operation after the region writes `main_arg4`: it ends as launched. -/
theorem W_main_arg4 (dats : (p : Fin 1) → (c : Dev nD) → Dat τ (Elt F) Unit ℕ (UR sig nD τ) ℕ (pcs m p) c) (c : Dev nD) :
    Pipeline.afterTail pcfgs (fun _ => adm m) dats 0 (V0 m) [hostOps1] c main_arg4 = m ((c : Thread nD τ).loc main_arg4) := by
  unfold Pipeline.afterTail
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-- No host operation after the region writes `main_arg5`: it ends as launched. -/
theorem W_main_arg5 (dats : (p : Fin 1) → (c : Dev nD) → Dat τ (Elt F) Unit ℕ (UR sig nD τ) ℕ (pcs m p) c) (c : Dev nD) :
    Pipeline.afterTail pcfgs (fun _ => adm m) dats 0 (V0 m) [hostOps1] c main_arg5 = m ((c : Thread nD τ).loc main_arg5) := by
  unfold Pipeline.afterTail
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-! ## The windows' blocks -/

/-- Window `w`'s block at point `t`, read off its array as the region finds it. -/
def iblk (c : Dev nD) (w : Fin (cfgA m).W) (t : Fin (cfgA m).N) : (((cfgA m).win w).xblock ((cfgA m).grid.coords t)).Idx → Elt F ((cfgA m).win w).elt :=
  (((cfgA m).win w).blk t).view.read (Elt F) (V m c (Pipeline.arrRef spec0 w))

/-- Input window 0's current staging buffer holds its block at every point. -/
theorem before0_0_of {c : Dev nD} (dat : Dat τ (Elt F) Unit ℕ (UR sig nD τ) ℕ (cfgA m) c) (hA : dat.A 0 = V m c (Pipeline.arrRef spec0 0))
    (hafter : ∀ t, dat.after 0 t = iblk m c 0 t) (t : Fin (cfgA m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point. -/
theorem before0_1_of {c : Dev nD} (dat : Dat τ (Elt F) Unit ℕ (UR sig nD τ) ℕ (cfgA m) c) (hA : dat.A 1 = V m c (Pipeline.arrRef spec0 1))
    (hafter : ∀ t, dat.after 1 t = iblk m c 1 t) (t : Fin (cfgA m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point. -/
theorem before0_2_of {c : Dev nD} (dat : Dat τ (Elt F) Unit ℕ (UR sig nD τ) ℕ (cfgA m) c) (hA : dat.A 2 = V m c (Pipeline.arrRef spec0 2))
    (hafter : ∀ t, dat.after 2 t = iblk m c 2 t) (t : Fin (cfgA m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point. -/
theorem before0_3_of {c : Dev nD} (dat : Dat τ (Elt F) Unit ℕ (UR sig nD τ) ℕ (cfgA m) c) (hA : dat.A 3 = V m c (Pipeline.arrRef spec0 3))
    (hafter : ∀ t, dat.after 3 t = iblk m c 3 t) (t : Fin (cfgA m).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point. -/
theorem before0_4_of {c : Dev nD} (dat : Dat τ (Elt F) Unit ℕ (UR sig nD τ) ℕ (cfgA m) c) (hA : dat.A 4 = V m c (Pipeline.arrRef spec0 4))
    (hafter : ∀ t, dat.after 4 t = iblk m c 4 t) (t : Fin (cfgA m).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## When the outputs are written back -/

/-- Window 5 is written back at every point. -/
theorem flush0_5 : ∀ t : Fin (cfgA m).N, ((cfgA m).win 5).flush t = true :=
  fun t => (Pipeline.Window.flush_reads (win0 (adm m) 5) rfl 1 (by decide) (by exact (by decide : grid0.fixedAfter reads0_5 1 = true)) (Pipeline.Window.sep_of_coord cc0_transform_5 1 1 (fun _ => rfl) (by decide)) (P := 1) (m := 0) (by decide) rfl t).mpr (Nat.mod_one _)
/-- Window 6 is written back at the last point only. -/
theorem flush0_6 : ∀ t : Fin (cfgA m).N, ((cfgA m).win 6).flush t = true ↔ t.val % 48 = 47 :=
  fun t => Pipeline.Window.flush_const (win0 (adm m) 6) rfl (fun _ _ => rfl) (n := 48) (by decide) rfl t
/-- Window 7 is written back at every point. -/
theorem flush0_7 : ∀ t : Fin (cfgA m).N, ((cfgA m).win 7).flush t = true :=
  fun t => (Pipeline.Window.flush_reads (win0 (adm m) 7) rfl 1 (by decide) (by exact (by decide : grid0.fixedAfter reads0_7 1 = true)) (Pipeline.Window.sep_of_coord cc0_transform_7 1 2 (fun _ => rfl) (by decide)) (P := 1) (m := 0) (by decide) rfl t).mpr (Nat.mod_one _)

/-! ## The frame claim's post from the run's -/

/-- From proof data whose arrays are the region-entry contents, a run to the frame post leaves every argument as launched. -/
theorem frame_of (dats : (p : Fin 1) → (c : Dev nD) → Dat τ (Elt F) Unit ℕ (UR sig nD τ) ℕ (pcs m p) c)
    (hA : ∀ c w, (dats 0 c).A w = V m c (Pipeline.arrRef spec0 w))
    (h : θ_run defs (onTc (τ := τ) (main (F := F))) (s₀ m ρ) (Pipeline.FramePost (pcs m) dats 0 (Pipeline.afterTail pcfgs (fun _ => adm m) dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      (((h c).2 main_arg2 (Pipeline.mem_restRefs_of main_arg2 (by decide) (by exact (by decide : ∀ w, Pipeline.arrRef spec0 w ≠ main_arg2)))).trans (W_main_arg2 m dats c)),
      (((h c).2 main_arg3 (Pipeline.mem_restRefs_of main_arg3 (by decide) (by exact (by decide : ∀ w, Pipeline.arrRef spec0 w ≠ main_arg3)))).trans (W_main_arg3 m dats c)),
      (((h c).2 main_arg4 (Pipeline.mem_restRefs_of main_arg4 (by decide) (by exact (by decide : ∀ w, Pipeline.arrRef spec0 w ≠ main_arg4)))).trans (W_main_arg4 m dats c)),
      (((h c).2 main_arg5 (Pipeline.mem_restRefs_of main_arg5 (by decide) (by exact (by decide : ∀ w, Pipeline.arrRef spec0 w ≠ main_arg5)))).trans (W_main_arg5 m dats c))⟩) h

end Cert.Kernel.Run

end
-- ==== Proof.KernelBody.lean ====
module

public import proofs.«01_k».proof.Proof.KernelKit
public import proofs.«01_k».proof.Proof.Gen.Kernel.Skeleton
public import Idealize.ShloMosaic.Lib.Pipeline.Value

/-! The kernel's run, second part: what the body leaves in each output block at a grid point, as functions of the
    blocks it reads, and the body's triple in each of its four cases — the first grid point or a later one, the
    point's rows inside the sequence or all past its end. -/

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! ## What the body computes at a point inside the sequence -/

section Vals
variable (i : grid0.Coords) (z : BitVec 32) (x : Vec F S1x512x3584 .fp8e4m3) (sc : Vec F S1x512 .f32) (wt : Vec F S64x3584 .bf16)
  (ids : Vec F S1x8x512 .i32) (dg : Vec F S1x8x512 .bf16)

/-- The first row of the point among the sequence's rows. -/
def start : BitVec 32 := Scalar.muli (BitVec.ofNat 32 (i 1).val) 512#32

/-- The row of scales the point reads. -/
def scRow (s : Vec F S12x2048 .f32) : Vec F S1x512 .f32 :=
  View.ld s (Rect.unit (s := S12x2048) (k0_off2 i) S1x512.size (Gen.k0_off2_inb i))

def v96 : FVec F S8x512 .f32 := k0_pay23 (k0_pay13 x wt sc) (k0_pay15 ids) (k0_pay16 ids) (k0_pay17 ids) (k0_pay18 ids)
  (k0_pay19 ids) (k0_pay20 ids) (k0_pay21 ids) (k0_pay22 x wt sc ids) (Scalar.ofBits .f32 0x00000000#32)
def v99 : FVec F S1x512 .f32 := k0_pay24 (k0_pay12 dg) (k0_pay13 x wt sc) (k0_pay15 ids) (k0_pay16 ids) (k0_pay17 ids) (k0_pay18 ids)
  (k0_pay19 ids) (k0_pay20 ids) (k0_pay21 ids) (k0_pay22 x wt sc ids) (Scalar.ofBits .f32 0x00000000#32)
def v111 : FVec F S8x512 .f32 := k0_pay26 z (k0_pay12 dg) (v96 x sc wt ids) (v99 x sc wt ids dg) (k0_pay25 (start i))
def v148 : FVec F S64x512 .f32 := k0_pay27 z (k0_pay12 dg) (k0_pay14 ids) (k0_pay15 ids) (k0_pay16 ids) (k0_pay17 ids) (k0_pay18 ids)
  (k0_pay19 ids) (v96 x sc wt ids) (v99 x sc wt ids dg) (k0_pay25 (start i))
def v153 : FVec F S64x512 .f32 := k0_pay28 z (k0_pay12 dg) (k0_pay20 ids) (v96 x sc wt ids) (v99 x sc wt ids dg) (k0_pay25 (start i))

/-- The point's block of the gradient in the logits, -/
def outDl : Vec F S1x64x512 .f32 := k0_pay5 (k0_pay21 ids) (v111 i z x sc wt ids dg) (v148 i z x sc wt ids dg) (v153 i z x sc wt ids dg)
/-- its block of the gradient in `x`, -/
def outDx : Vec F S1x512x3584 .bf16 := k0_pay8 (k0_pay10 wt) (k0_pay21 ids) (v111 i z x sc wt ids dg) (v148 i z x sc wt ids dg) (v153 i z x sc wt ids dg)
/-- and the running gradient in the weights, its own part added. -/
def outDw (old : Vec F S64x3584 .f32) : Vec F S64x3584 .f32 :=
  k0_pay7 (k0_pay9 x) sc (k0_pay21 ids) (v111 i z x sc wt ids dg) (v148 i z x sc wt ids dg) (v153 i z x sc wt ids dg) old

end Vals

/-! ## The body's triples -/

section Triples
variable (c : Dev nD) (E : Set ℕ) (i : grid0.Coords)
  (arg2 : Memref sig .tc .smem S12 .i32) (harg2 : arg2.IsWhole) (arg3 : Memref sig .tc .vmem S1x512x3584 .fp8e4m3) (harg3 : arg3.IsWhole)
  (arg4 : Memref sig .tc .vmem S12x2048 .f32) (harg4 : arg4.IsWhole) (arg5 : Memref sig .tc .vmem S64x3584 .bf16) (harg5 : arg5.IsWhole)
  (arg6 : Memref sig .tc .vmem S1x8x512 .i32) (harg6 : arg6.IsWhole) (arg7 : Memref sig .tc .vmem S1x8x512 .bf16) (harg7 : arg7.IsWhole)
  (arg8 : Memref sig .tc .vmem S1x512x3584 .bf16) (harg8 : arg8.IsWhole) (arg9 : Memref sig .tc .vmem S64x3584 .f32) (harg9 : arg9.IsWhole)
  (arg10 : Memref sig .tc .vmem S1x64x512 .f32) (harg10 : arg10.IsWhole)
  (tb : Vec F S12 .i32) (x : Vec F S1x512x3584 .fp8e4m3) (s : Vec F S12x2048 .f32) (wt : Vec F S64x3584 .bf16)
  (ids : Vec F S1x8x512 .i32) (dg : Vec F S1x8x512 .bf16)

/-- The table's word at the point, as the body's own load reads it. -/
def wordOf : BitVec 32 := tb ((Rect.unit (s := S12) (k0_off1 i) S1.size (Gen.k0_off1_inb i)).emb (Shape.Idx.first (Gen.numel1_S1.symm ▸ Nat.one_pos)))

/-! A load of a whole block reads it; a store over a whole block leaves its payload. -/

section Whole
variable {κ : Kind} {sp : Space} {S : Shape} {e : EltTy} (v : View sig κ sp S e) {off : Fin S.rank → ℕ} (h : off = fun _ => 0)
  (inb : ∀ a, off a + S.size a ≤ S.size a)

include h in
theorem read_store (f : v.ty.Contents (Elt F)) (w : S.Idx → Elt F e) (L : List (View.Piece (Elt F) S e)) :
    v.read (Elt F) (v.writes (Elt F) f (⟨Rect.unit off S.size inb, w⟩ :: L)) = w :=
  (View.read_writes_eq_canon _ _ _ (fun y => ⟨_, List.mem_cons_self, View.mem_set_unit_zero h inb y⟩)).trans
    (View.canon_cons_unit_zero h inb w L)

include h in
theorem load_whole (f : v.ty.Contents (Elt F)) : v.readAt (Elt F) (Rect.unit off S.size inb).toLoadRect f = v.read (Elt F) f :=
  View.ld_unit_zero h inb (v.read (Elt F) f)
end Whole

theorem z2 : (![0, 0] : Fin 2 → ℕ) = fun _ => 0 := by decide
theorem z3 : (![0, 0, 0] : Fin 3 → ℕ) = fun _ => 0 := by decide

set_option maxHeartbeats 2000000 in
/-- A later point, inside the sequence. -/
theorem sound_later_in (hc1 : ¬ k0_cond1 i = 1#1) (hc2 : ¬ k0_cond2 i (wordOf i tb) = 1#1) (hc3 : k0_cond3 i (wordOf i tb) = 1#1) (old : Vec F S64x3584 .f32) (K : PUnit → sProp 𝕄) :
    iprop(owns (c : Thread nD τ) arg2 fullShare.right tb ∗ owns (c : Thread nD τ) arg3 fullShare x ∗ owns (c : Thread nD τ) arg4 fullShare s
        ∗ owns (c : Thread nD τ) arg5 fullShare wt ∗ owns (c : Thread nD τ) arg6 fullShare ids ∗ owns (c : Thread nD τ) arg7 fullShare dg
        ∗ (∃ d, owns (c : Thread nD τ) arg8 fullShare d) ∗ owns (c : Thread nD τ) arg9 fullShare old ∗ (∃ d, owns (c : Thread nD τ) arg10 fullShare d)
        ∗ (iprop(owns (c : Thread nD τ) arg2 fullShare.right tb ∗ owns (c : Thread nD τ) arg3 fullShare x ∗ owns (c : Thread nD τ) arg4 fullShare s
            ∗ owns (c : Thread nD τ) arg5 fullShare wt ∗ owns (c : Thread nD τ) arg6 fullShare ids ∗ owns (c : Thread nD τ) arg7 fullShare dg
            ∗ owns (c : Thread nD τ) arg8 fullShare (outDx i (wordOf i tb) x (scRow i s) wt ids dg)
            ∗ owns (c : Thread nD τ) arg9 fullShare (outDw i (wordOf i tb) x (scRow i s) wt ids dg old)
            ∗ owns (c : Thread nD τ) arg10 fullShare (outDl i (wordOf i tb) x (scRow i s) wt ids dg)) -∗ K ⟨⟩))
      ⊢ wp frame (wpE (defs₀ (F := F)) Variants.none c none) E
          (cc0_router_backward i arg2 harg2 arg3 harg3 arg4 harg4 arg5 harg5 arg6 harg6 arg7 harg7 arg8 harg8 arg9 harg9 arg10 harg10) K := by
  simp only [cc0_router_backward_eq_skeleton, k0_part1_eq_skeleton, k0_part2_eq_skeleton, k0_part3_eq_skeleton]; unfold cc0_router_backward_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%d10, %f10, -, H10⟩, Hk⟩
  subst hf2 hf3 hf4 hf5 hf6 hf7 hf9
  sl_exec (disch := first | sl_exact hc1 | sl_exact hc2 | sl_exact hc3)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    refine (read_store _ z3 _ _ _ _).trans ?_
    rw [← load_whole arg3.view z3 inb_S1x512x3584_S1x512x3584_0_0_0 f3, ← load_whole arg5.view z2 inb_S64x3584_S64x3584_0_0 f5, ← load_whole arg6.view z3 inb_S1x8x512_S1x8x512_0_0_0 f6, ← load_whole arg7.view z3 inb_S1x8x512_S1x8x512_0_0_0 f7]; rfl
  isplitl [H9]
  · iexists _; isplitr
    swap; · iexact H9
    ipureintro
    refine (read_store _ z2 _ _ _ _).trans ?_
    rw [← load_whole arg9.view z2 inb_S64x3584_S64x3584_0_0 f9]; rw [← load_whole arg3.view z3 inb_S1x512x3584_S1x512x3584_0_0_0 f3, ← load_whole arg5.view z2 inb_S64x3584_S64x3584_0_0 f5, ← load_whole arg6.view z3 inb_S1x8x512_S1x8x512_0_0_0 f6, ← load_whole arg7.view z3 inb_S1x8x512_S1x8x512_0_0_0 f7]; rfl
  iexists _; isplitr
  swap; · iexact H10
  ipureintro
  refine (read_store _ z3 _ _ _ _).trans ?_
  rw [← load_whole arg3.view z3 inb_S1x512x3584_S1x512x3584_0_0_0 f3, ← load_whole arg5.view z2 inb_S64x3584_S64x3584_0_0 f5, ← load_whole arg6.view z3 inb_S1x8x512_S1x8x512_0_0_0 f6, ← load_whole arg7.view z3 inb_S1x8x512_S1x8x512_0_0_0 f7]; rfl

set_option maxHeartbeats 2000000 in
/-- The first point, inside the sequence. -/
theorem sound_first_in (hc1 : k0_cond1 i = 1#1) (hc2 : ¬ k0_cond2 i (wordOf i tb) = 1#1) (hc3 : k0_cond3 i (wordOf i tb) = 1#1) (K : PUnit → sProp 𝕄) :
    iprop(owns (c : Thread nD τ) arg2 fullShare.right tb ∗ owns (c : Thread nD τ) arg3 fullShare x ∗ owns (c : Thread nD τ) arg4 fullShare s
        ∗ owns (c : Thread nD τ) arg5 fullShare wt ∗ owns (c : Thread nD τ) arg6 fullShare ids ∗ owns (c : Thread nD τ) arg7 fullShare dg
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare.right tb ∗ owns (c : Thread nD τ) arg3 fullShare x ∗ owns (c : Thread nD τ) arg4 fullShare s
            ∗ owns (c : Thread nD τ) arg5 fullShare wt ∗ owns (c : Thread nD τ) arg6 fullShare ids ∗ owns (c : Thread nD τ) arg7 fullShare dg
            ∗ owns (c : Thread nD τ) arg8 fullShare (outDx i (wordOf i tb) x (scRow i s) wt ids dg)
            ∗ owns (c : Thread nD τ) arg9 fullShare (outDw i (wordOf i tb) x (scRow i s) wt ids dg k0_pay1)
            ∗ owns (c : Thread nD τ) arg10 fullShare (outDl i (wordOf i tb) x (scRow i s) wt ids dg)) -∗ K ⟨⟩))
      ⊢ wp frame (wpE (defs₀ (F := F)) Variants.none c none) E
          (cc0_router_backward i arg2 harg2 arg3 harg3 arg4 harg4 arg5 harg5 arg6 harg6 arg7 harg7 arg8 harg8 arg9 harg9 arg10 harg10) K := by
  simp only [cc0_router_backward_eq_skeleton, k0_part1_eq_skeleton, k0_part2_eq_skeleton, k0_part3_eq_skeleton]; unfold cc0_router_backward_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf2 hf3 hf4 hf5 hf6 hf7
  sl_exec (disch := first | sl_exact hc1 | sl_exact hc2 | sl_exact hc3)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    refine (read_store _ z3 _ _ _ _).trans ?_
    rw [← load_whole arg3.view z3 inb_S1x512x3584_S1x512x3584_0_0_0 f3, ← load_whole arg5.view z2 inb_S64x3584_S64x3584_0_0 f5, ← load_whole arg6.view z3 inb_S1x8x512_S1x8x512_0_0_0 f6, ← load_whole arg7.view z3 inb_S1x8x512_S1x8x512_0_0_0 f7]; rfl
  isplitl [H9]
  · iexists _; isplitr
    swap; · iexact H9
    ipureintro
    refine (read_store _ z2 _ _ _ _).trans ?_
    rw [← View.readCov_unit_zero (Val := Elt F) arg9.view z2 inb_S64x3584_S64x3584_0_0 (k0_pay1 (F := F))]; rw [← load_whole arg3.view z3 inb_S1x512x3584_S1x512x3584_0_0_0 f3, ← load_whole arg5.view z2 inb_S64x3584_S64x3584_0_0 f5, ← load_whole arg6.view z3 inb_S1x8x512_S1x8x512_0_0_0 f6, ← load_whole arg7.view z3 inb_S1x8x512_S1x8x512_0_0_0 f7]; rfl
  iexists _; isplitr
  swap; · iexact H10
  ipureintro
  refine (read_store _ z3 _ _ _ _).trans ?_
  rw [← load_whole arg3.view z3 inb_S1x512x3584_S1x512x3584_0_0_0 f3, ← load_whole arg5.view z2 inb_S64x3584_S64x3584_0_0 f5, ← load_whole arg6.view z3 inb_S1x8x512_S1x8x512_0_0_0 f6, ← load_whole arg7.view z3 inb_S1x8x512_S1x8x512_0_0_0 f7]; rfl

set_option maxHeartbeats 2000000 in
/-- A later point, past the end of the sequence. -/
theorem sound_later_past (hc1 : ¬ k0_cond1 i = 1#1) (hc2 : k0_cond2 i (wordOf i tb) = 1#1) (hc3 : ¬ k0_cond3 i (wordOf i tb) = 1#1) (old : Vec F S64x3584 .f32) (K : PUnit → sProp 𝕄) :
    iprop(owns (c : Thread nD τ) arg2 fullShare.right tb ∗ owns (c : Thread nD τ) arg3 fullShare x ∗ owns (c : Thread nD τ) arg4 fullShare s
        ∗ owns (c : Thread nD τ) arg5 fullShare wt ∗ owns (c : Thread nD τ) arg6 fullShare ids ∗ owns (c : Thread nD τ) arg7 fullShare dg
        ∗ (∃ d, owns (c : Thread nD τ) arg8 fullShare d) ∗ owns (c : Thread nD τ) arg9 fullShare old ∗ (∃ d, owns (c : Thread nD τ) arg10 fullShare d)
        ∗ (iprop(owns (c : Thread nD τ) arg2 fullShare.right tb ∗ owns (c : Thread nD τ) arg3 fullShare x ∗ owns (c : Thread nD τ) arg4 fullShare s
            ∗ owns (c : Thread nD τ) arg5 fullShare wt ∗ owns (c : Thread nD τ) arg6 fullShare ids ∗ owns (c : Thread nD τ) arg7 fullShare dg
            ∗ owns (c : Thread nD τ) arg8 fullShare k0_pay2
            ∗ owns (c : Thread nD τ) arg9 fullShare old
            ∗ owns (c : Thread nD τ) arg10 fullShare k0_pay3) -∗ K ⟨⟩))
      ⊢ wp frame (wpE (defs₀ (F := F)) Variants.none c none) E
          (cc0_router_backward i arg2 harg2 arg3 harg3 arg4 harg4 arg5 harg5 arg6 harg6 arg7 harg7 arg8 harg8 arg9 harg9 arg10 harg10) K := by
  simp only [cc0_router_backward_eq_skeleton, k0_part1_eq_skeleton, k0_part2_eq_skeleton, k0_part3_eq_skeleton]; unfold cc0_router_backward_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%d10, %f10, -, H10⟩, Hk⟩
  subst hf2 hf3 hf4 hf5 hf6 hf7 hf9
  sl_exec (disch := first | sl_exact hc1 | sl_exact hc2 | sl_exact hc3)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    refine (read_store _ z3 _ _ _ _).trans ?_
    rfl
  isplitl [H9]
  · iexists _; isplitr
    swap; · iexact H9
    ipureintro
    rfl
  iexists _; isplitr
  swap; · iexact H10
  ipureintro
  refine (read_store _ z3 _ _ _ _).trans ?_
  rfl

set_option maxHeartbeats 2000000 in
/-- The first point, past the end of the sequence. -/
theorem sound_first_past (hc1 : k0_cond1 i = 1#1) (hc2 : k0_cond2 i (wordOf i tb) = 1#1) (hc3 : ¬ k0_cond3 i (wordOf i tb) = 1#1) (K : PUnit → sProp 𝕄) :
    iprop(owns (c : Thread nD τ) arg2 fullShare.right tb ∗ owns (c : Thread nD τ) arg3 fullShare x ∗ owns (c : Thread nD τ) arg4 fullShare s
        ∗ owns (c : Thread nD τ) arg5 fullShare wt ∗ owns (c : Thread nD τ) arg6 fullShare ids ∗ owns (c : Thread nD τ) arg7 fullShare dg
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare.right tb ∗ owns (c : Thread nD τ) arg3 fullShare x ∗ owns (c : Thread nD τ) arg4 fullShare s
            ∗ owns (c : Thread nD τ) arg5 fullShare wt ∗ owns (c : Thread nD τ) arg6 fullShare ids ∗ owns (c : Thread nD τ) arg7 fullShare dg
            ∗ owns (c : Thread nD τ) arg8 fullShare k0_pay2
            ∗ owns (c : Thread nD τ) arg9 fullShare k0_pay1
            ∗ owns (c : Thread nD τ) arg10 fullShare k0_pay3) -∗ K ⟨⟩))
      ⊢ wp frame (wpE (defs₀ (F := F)) Variants.none c none) E
          (cc0_router_backward i arg2 harg2 arg3 harg3 arg4 harg4 arg5 harg5 arg6 harg6 arg7 harg7 arg8 harg8 arg9 harg9 arg10 harg10) K := by
  simp only [cc0_router_backward_eq_skeleton, k0_part1_eq_skeleton, k0_part2_eq_skeleton, k0_part3_eq_skeleton]; unfold cc0_router_backward_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf2 hf3 hf4 hf5 hf6 hf7
  sl_exec (disch := first | sl_exact hc1 | sl_exact hc2 | sl_exact hc3)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    refine (read_store _ z3 _ _ _ _).trans ?_
    rfl
  isplitl [H9]
  · iexists _; isplitr
    swap; · iexact H9
    ipureintro
    refine (read_store _ z2 _ _ _ _).trans ?_
    rfl
  iexists _; isplitr
  swap; · iexact H10
  ipureintro
  refine (read_store _ z3 _ _ _ _).trans ?_
  rfl

end Triples

end Cert.Kernel.Run

end
-- ==== Proof.KernelRun.lean ====
module

public import proofs.«01_k».proof.Proof.KernelBody
public import Idealize.ShloMosaic.Lib.Claim

/-! The kernel's run, third part: the pipeline's proof data, the body obligation at every grid point, the run, and the
    frame claim's statement. -/

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! ## The branch conditions -/

/-- Converting a condition to a word and testing it against zero is the condition. -/
theorem cond_of_bool (b : Bool) : Scalar.cmpi .ne (Scalar.extui (BitVec.ofBool b)) 0#32 = 1#1 ↔ b = true := by
  cases b <;> decide

theorem cond2_iff (i : grid0.Coords) (z : BitVec 32) : k0_cond2 i z = 1#1 ↔ z.sle (start i) = true := by
  unfold k0_cond2; exact cond_of_bool _
theorem cond3_iff (i : grid0.Coords) (z : BitVec 32) : k0_cond3 i z = 1#1 ↔ (start i).slt z = true := by
  unfold k0_cond3; exact cond_of_bool _
/-- A point's rows begin past the end exactly when they do not begin inside. -/
theorem cond2_iff_not (i : grid0.Coords) (z : BitVec 32) : k0_cond2 i z = 1#1 ↔ ¬ k0_cond3 i z = 1#1 := by
  rw [cond2_iff, cond3_iff, BitVec.sle_iff_toInt_le, BitVec.slt_iff_toInt_lt, not_lt]

/-- The first branch runs at the first point only. -/
theorem cond1_iff : ∀ t : Fin grid0.N, k0_cond1 (grid0.coords t) = 1#1 ↔ t.val = 0 := by decide +kernel

theorem wordOf_eq (pf : pre0.Contents (Elt F)) (i : grid0.Coords) : wordOf i (pf 0) = word pf i := rfl

/-- The pipeline's own reading of the table's word is the body's. -/
theorem atD_eq (pf : pre0.Contents (Elt F)) (i : grid0.Coords) : pf.atD 0 (k0_off1 i) = word pf i := by
  unfold Pipeline.Prefetch.Contents.atD
  rw [dif_pos (fun a => by fin_cases a; exact Gen.k0_off1_inb i 0)]
  refine congrArg (pf 0) (funext fun a => Fin.ext ?_)
  fin_cases a
  show k0_off1 i 0 = k0_off1 i 0 + 1 * 0
  omega

variable (m : (ℓ : Loc nD τ sig) → Buf (Elt F) ℓ) (ρ : Dev nD → PrngReg)

/-- Whether the rows of point `t` begin inside their sequence. -/
def act (t : Fin (cfgA m).N) : Prop := k0_cond3 (grid0.coords t) (word (pf0 m) (grid0.coords t)) = 1#1
instance (t : Fin (cfgA m).N) : Decidable (act m t) := inferInstanceAs (Decidable (_ = _))

theorem idle5 (t : Fin (cfgA m).N) : (cfgA m).idle 5 ((cfgA m).grid.coords t) = false := by
  show (!(k0_cond2 (grid0.coords t) ((pf0 m).atD 0 (k0_off1 (grid0.coords t))) == 1#1) && !(k0_cond3 (grid0.coords t) ((pf0 m).atD 0 (k0_off1 (grid0.coords t))) == 1#1)) = false
  rw [atD_eq]
  by_cases h : k0_cond3 (grid0.coords t) (word (pf0 m) (grid0.coords t)) = 1#1
  · rw [h]; simp
  · rw [(cond2_iff_not _ _).2 h]; simp
theorem idle7 (t : Fin (cfgA m).N) : (cfgA m).idle 7 ((cfgA m).grid.coords t) = false := idle5 m t
theorem idle6 (t : Fin (cfgA m).N) : (cfgA m).idle 6 ((cfgA m).grid.coords t) = (!(k0_cond1 (grid0.coords t) == 1#1) && !(decide (act m t))) := by
  show (!(k0_cond1 (grid0.coords t) == 1#1) && !(k0_cond3 (grid0.coords t) ((pf0 m).atD 0 (k0_off1 (grid0.coords t))) == 1#1)) = _
  rw [atD_eq]; rfl

theorem N_eq : (cfgA m).N = 48 := by exact (by decide : grid0.N = 48)

/-! ## The proof data -/

/-- The running gradient in the weights after a point, from what it was before. -/
def dwStep (c : Dev nD) (t : Fin (cfgA m).N) (old : Vec F S64x3584 .f32) : Vec F S64x3584 .f32 :=
  if act m t then outDw (grid0.coords t) (word (pf0 m) (grid0.coords t)) (iblk m c 0 t) (scRow (grid0.coords t) (iblk m c 1 t)) (iblk m c 2 t) (iblk m c 3 t) (iblk m c 4 t) old
  else old

/-- The running gradient in the weights after point `n`, from zero. -/
def dwAt (c : Dev nD) : ℕ → Vec F S64x3584 .f32
  | 0 => dwStep m c ⟨0, by rw [N_eq]; decide⟩ k0_pay1
  | n + 1 => if h : n + 1 < (cfgA m).N then dwStep m c ⟨n + 1, h⟩ (dwAt c n) else dwAt c n

/-- The block of the gradient in `x` at a point, -/
def dxAt (c : Dev nD) (t : Fin (cfgA m).N) : Vec F S1x512x3584 .bf16 :=
  if act m t then outDx (grid0.coords t) (word (pf0 m) (grid0.coords t)) (iblk m c 0 t) (scRow (grid0.coords t) (iblk m c 1 t)) (iblk m c 2 t) (iblk m c 3 t) (iblk m c 4 t)
  else k0_pay2
/-- and of the gradient in the logits. -/
def dlAt (c : Dev nD) (t : Fin (cfgA m).N) : Vec F S1x64x512 .f32 :=
  if act m t then outDl (grid0.coords t) (word (pf0 m) (grid0.coords t)) (iblk m c 0 t) (scRow (grid0.coords t) (iblk m c 1 t)) (iblk m c 2 t) (iblk m c 3 t) (iblk m c 4 t)
  else k0_pay3

/-- The pipeline's proof data on core `c`: the arrays as the region finds them; after the body each input's buffer at its
    block, each output's at the functions above; the invariant untouched but for the table, which the body may read. -/
def dat (c : Dev nD) : Dat τ (Elt F) Unit ℕ (UR sig nD τ) ℕ (cfgA m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => dxAt m c t
    | ⟨6, _⟩ => dwAt m c t.val
    | ⟨7, _⟩ => dlAt m c t
  Φ _ := iprop(Pipeline.ΦA spec0 c ∗ Pipeline.ΦT pre0 (adm m).1 c)
  q _ := fullShare
  owed _ := 0

def dats : (p : Fin 1) → (c : Dev nD) → Dat τ (Elt F) Unit ℕ (UR sig nD τ) ℕ (pcs m p) c := fun _ c => dat m c

theorem A_eq (c : Dev nD) (w : Fin (cfgA m).W) : (dat m c).A w = V m c (Pipeline.arrRef spec0 w) := by
  dsimp only [dat]

theorem after0 (c : Dev nD) (t : Fin (cfgA m).N) : (dat m c).after 0 t = iblk m c 0 t := rfl
theorem before0 (c : Dev nD) (t : Fin (cfgA m).N) (d) : (dat m c).before 0 t d = iblk m c 0 t :=
  before0_0_of m (dat m c) (A_eq m c 0) (after0 m c) t d
theorem after1 (c : Dev nD) (t : Fin (cfgA m).N) : (dat m c).after 1 t = iblk m c 1 t := rfl
theorem before1 (c : Dev nD) (t : Fin (cfgA m).N) (d) : (dat m c).before 1 t d = iblk m c 1 t :=
  before0_1_of m (dat m c) (A_eq m c 1) (after1 m c) t d
theorem after2 (c : Dev nD) (t : Fin (cfgA m).N) : (dat m c).after 2 t = iblk m c 2 t := rfl
theorem before2 (c : Dev nD) (t : Fin (cfgA m).N) (d) : (dat m c).before 2 t d = iblk m c 2 t :=
  before0_2_of m (dat m c) (A_eq m c 2) (after2 m c) t d
theorem after3 (c : Dev nD) (t : Fin (cfgA m).N) : (dat m c).after 3 t = iblk m c 3 t := rfl
theorem before3 (c : Dev nD) (t : Fin (cfgA m).N) (d) : (dat m c).before 3 t d = iblk m c 3 t :=
  before0_3_of m (dat m c) (A_eq m c 3) (after3 m c) t d
theorem after4 (c : Dev nD) (t : Fin (cfgA m).N) : (dat m c).after 4 t = iblk m c 4 t := rfl
theorem before4 (c : Dev nD) (t : Fin (cfgA m).N) (d) : (dat m c).before 4 t d = iblk m c 4 t :=
  before0_4_of m (dat m c) (A_eq m c 4) (after4 m c) t d
theorem after5 (c : Dev nD) (t : Fin (cfgA m).N) : (dat m c).after 5 t = dxAt m c t := rfl
theorem after6 (c : Dev nD) (t : Fin (cfgA m).N) : (dat m c).after 6 t = dwAt m c t.val := rfl
theorem after7 (c : Dev nD) (t : Fin (cfgA m).N) : (dat m c).after 7 t = dlAt m c t := rfl

/-! ## The running gradient's buffer between points -/

/-- After a point other than the first: the step from the point before. -/
theorem dwAt_pos (c : Dev nD) (t : Fin (cfgA m).N) (h0 : t.val ≠ 0) : dwAt m c t.val = dwStep m c t (dwAt m c (t.val - 1)) := by
  obtain ⟨n, hn⟩ := t
  cases n with
  | zero => exact absurd rfl h0
  | succ n => exact dif_pos hn

/-- The buffer holds what the point before left at every point but the first. -/
theorem fresh6 : ∀ n : ℕ, n < 48 → n ≠ 0 → (cfgA m).fresh 6 n = false
  | 0, _, h => absurd rfl h
  | n + 1, hn, _ => by
    have hN : n < (cfgA m).N := by show n < 48; omega
    rw [Cfg.fresh_succ (cfgA m) 6 n hN]
    have hf : ((cfgA m).win 6).flush ⟨n, hN⟩ = false := by
      rw [← Bool.not_eq_true, flush0_6]; show ¬ n % 48 = 47; omega
    rw [hf, Bool.false_or]
    by_cases h0 : n = 0
    · subst h0
      rw [idle6, (cond1_iff ⟨0, hN⟩).2 rfl]; rfl
    · rw [fresh6 n (by omega) h0, Bool.and_false]

theorem carry6 (c : Dev nD) (t : Fin (cfgA m).N) (h0 : t.val ≠ 0) (ha : ¬ act m t) : dwAt m c t.val = dwAt m c (t.val - 1) := by
  rw [dwAt_pos m c t h0]; exact if_neg ha

theorem before6 (c : Dev nD) (t : Fin (cfgA m).N) (h0 : t.val ≠ 0) (d) : (dat m c).before 6 t d = dwAt m c (t.val - 1) := by
  rw [(dat m c).before_out_traj 6 rfl (fun _ _ => rfl) (fun t h0 hi hf => by
      rw [after6, after6]
      refine carry6 m c t h0 fun ha => ?_
      rw [idle6, decide_eq_true ha] at hi
      simp at hi) t.val t rfl d, fresh6 m t.val t.isLt h0, if_neg Bool.false_ne_true, after6]

/-! ## The body obligation -/

/-- The current staging memref of each window at point `t`. -/
abbrev st (w : Fin (cfgA m).W) (t : Fin (cfgA m).N) := ((cfgA m).win w).stage ((cfgA m).slots t w)

/-- The kernel body at point `t`, on what the pipeline calls it with. -/
abbrev bodyAt (t : Fin (cfgA m).N) : Prog (TpuEff nD τ sig (Elt F) Λ₀ .tc) PUnit :=
  cc0_router_backward (grid0.coords t) (Memref.whole main_arg5) (Memref.isWhole_whole _)
    (spec0_0.stage ((cfgA m).slots t 0)) (hstage0_0 (((cfgA m).slots t 0).cast nbuf0_0))
    (spec0_1.stage ((cfgA m).slots t 1)) (hstage0_1 (((cfgA m).slots t 1).cast nbuf0_1))
    (spec0_2.stage ((cfgA m).slots t 2)) (hstage0_2 (((cfgA m).slots t 2).cast nbuf0_2))
    (spec0_3.stage ((cfgA m).slots t 3)) (hstage0_3 (((cfgA m).slots t 3).cast nbuf0_3))
    (spec0_4.stage ((cfgA m).slots t 4)) (hstage0_4 (((cfgA m).slots t 4).cast nbuf0_4))
    (spec0_5.stage ((cfgA m).slots t 5)) (hstage0_5 (((cfgA m).slots t 5).cast nbuf0_5))
    (spec0_6.stage ((cfgA m).slots t 6)) (hstage0_6 (((cfgA m).slots t 6).cast nbuf0_6))
    (spec0_7.stage ((cfgA m).slots t 7)) (hstage0_7 (((cfgA m).slots t 7).cast nbuf0_7))

theorem defs₀_row (t : Fin (cfgA m).N) :
    defs₀ (F := F) .tc (cfgA m).body ((cfgA m).bodyArgs t ((cfgA m).slots t)) = bodyAt m t := by
  unfold defs₀; rw [Defs.onTc_tc]

/-- The body's share of the table is the table's buffer owned. -/
theorem table_eq (c : Dev nD) : (Pipeline.ΦT pre0 (adm m).1 c : sProp 𝕄)
    = owns (c : Thread nD τ) (Memref.whole main_arg5) fullShare.right (pf0 m 0) := by
  unfold Pipeline.ΦT Pipeline.prefHeld
  rw [show (Finset.univ : Finset (Fin pre0.K)) = {0} from by decide, bigSep_singleton]
  exact (owns_whole (c : Thread nD τ) main_arg5 fullShare.right (pf0 m 0)).symm

def bodyPre (c : Dev nD) (t : Fin (cfgA m).N) : sProp 𝕄 :=
  iprop((dat m c).Φ t.castSucc ∗ (dat m c).owesAt () t.castSucc
    ∗ (∃ d, owns (c : Thread nD τ) (st m 0 t) fullShare ((dat m c).before 0 t d))
    ∗ (∃ d, owns (c : Thread nD τ) (st m 1 t) fullShare ((dat m c).before 1 t d))
    ∗ (∃ d, owns (c : Thread nD τ) (st m 2 t) fullShare ((dat m c).before 2 t d))
    ∗ (∃ d, owns (c : Thread nD τ) (st m 3 t) fullShare ((dat m c).before 3 t d))
    ∗ (∃ d, owns (c : Thread nD τ) (st m 4 t) fullShare ((dat m c).before 4 t d))
    ∗ (∃ d, owns (c : Thread nD τ) (st m 5 t) fullShare ((dat m c).before 5 t d))
    ∗ (∃ d, owns (c : Thread nD τ) (st m 6 t) fullShare ((dat m c).before 6 t d))
    ∗ (∃ d, owns (c : Thread nD τ) (st m 7 t) fullShare ((dat m c).before 7 t d)))

def bodyPost (c : Dev nD) (t : Fin (cfgA m).N) : sProp 𝕄 :=
  iprop((dat m c).Φ t.succ ∗ (dat m c).owesAt () t.succ
    ∗ owns (c : Thread nD τ) (st m 0 t) fullShare ((dat m c).after 0 t)
    ∗ owns (c : Thread nD τ) (st m 1 t) fullShare ((dat m c).after 1 t)
    ∗ owns (c : Thread nD τ) (st m 2 t) fullShare ((dat m c).after 2 t)
    ∗ owns (c : Thread nD τ) (st m 3 t) fullShare ((dat m c).after 3 t)
    ∗ owns (c : Thread nD τ) (st m 4 t) fullShare ((dat m c).after 4 t)
    ∗ (dat m c).leavesExact 5 t ∗ (dat m c).leavesExact 6 t ∗ (dat m c).leavesExact 7 t)

theorem leaves5 (c : Dev nD) (t : Fin (cfgA m).N) : (dat m c).leavesExact 5 t = (owns (c : Thread nD τ) (st m 5 t) fullShare (dxAt m c t) : sProp 𝕄) := by
  unfold Dat.leavesExact; rw [idle5, after5]
theorem leaves7 (c : Dev nD) (t : Fin (cfgA m).N) : (dat m c).leavesExact 7 t = (owns (c : Thread nD τ) (st m 7 t) fullShare (dlAt m c t) : sProp 𝕄) := by
  unfold Dat.leavesExact; rw [idle7, after7]
theorem leaves6 (c : Dev nD) (t : Fin (cfgA m).N) : (owns (c : Thread nD τ) (st m 6 t) fullShare (dwAt m c t.val) : sProp 𝕄) ⊢ (dat m c).leavesExact 6 t := by
  unfold Dat.leavesExact
  cases hi : (cfgA m).idle 6 ((cfgA m).grid.coords t) with
  | false => dsimp only; rw [after6]
  | true =>
    cases hf : ((cfgA m).win 6).flush t with
    | true => dsimp only; rw [after6]
    | false =>
      dsimp only
      rw [idle6] at hi
      simp only [Bool.and_eq_true, Bool.not_eq_true', beq_eq_false_iff_ne, decide_eq_false_iff_not] at hi
      have h0 : t.val ≠ 0 := fun h => hi.1 ((cond1_iff t).2 h)
      rw [carry6 m c t h0 hi.2]
      have h : (owns (c : Thread nD τ) (st m 6 t) fullShare (dwAt m c (t.val - 1)) : sProp 𝕄)
          ⊢ owns (c : Thread nD τ) (st m 6 t) fullShare ((dat m c).before 6 t (dwAt m c (t.val - 1))) := by
        rw [before6 m c t h0 (dwAt m c (t.val - 1))]
      iintro H
      iexists (dwAt m c (t.val - 1))
      iapply h
      iexact H

theorem sound_body (c : Dev nD) (t : Fin (cfgA m).N) :
    bodyPre m c t ⊢ wp frame (wpE (defs₀ (F := F)) Variants.none c none) Set.univ (bodyAt m t) (fun _ => bodyPost m c t) := by
  unfold bodyPre bodyPost
  simp only [before0, before1, before2, before3, before4]
  rw [show (dat m c).Φ t.succ = (dat m c).Φ t.castSucc from rfl,
    show (dat m c).owesAt () t.succ = (dat m c).owesAt () t.castSucc from rfl,
    after0, after1, after2, after3, after4, leaves5, leaves7,
    show (dat m c).Φ t.castSucc = iprop(Pipeline.ΦA spec0 c ∗ Pipeline.ΦT pre0 (adm m).1 c) from rfl, table_eq]
  by_cases h0 : t.val = 0
  · have hc1 : k0_cond1 (grid0.coords t) = 1#1 := (cond1_iff t).2 h0
    have h6 : dwAt m c t.val = dwStep m c t k0_pay1 := by
      obtain rfl : t = ⟨0, by rw [N_eq]; decide⟩ := Fin.ext h0
      rfl
    by_cases ha : act m t
    · rw [show dxAt m c t = _ from if_pos ha, show dlAt m c t = _ from if_pos ha]
      iintro ⟨⟨HΦ, HT⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_first_in c Set.univ (grid0.coords t) _ _ _ _ _ _ _ _ _ _ _ _ _ _ _ _ _ _ (pf0 m 0) (iblk m c 0 t) (iblk m c 1 t) (iblk m c 2 t) (iblk m c 3 t) (iblk m c 4 t) hc1
        (fun h => (cond2_iff_not _ _).1 h ha) ha)
      isplitl [HT]; · iexact HT
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      iintro ⟨HT, H0, H1, H2, H3, H4, H5, H6, H7⟩
      isplitl [HΦ HT]
      · isplitl [HΦ]; · iexact HΦ
        iexact HT
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · iapply (leaves6 m c t)
        rw [h6, show dwStep m c t _ = _ from if_pos ha]
        iexact H6
      iexact H7
    · rw [show dxAt m c t = _ from if_neg ha, show dlAt m c t = _ from if_neg ha]
      iintro ⟨⟨HΦ, HT⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_first_past c Set.univ (grid0.coords t) _ _ _ _ _ _ _ _ _ _ _ _ _ _ _ _ _ _ (pf0 m 0) (iblk m c 0 t) (iblk m c 1 t) (iblk m c 2 t) (iblk m c 3 t) (iblk m c 4 t) hc1
        ((cond2_iff_not _ _).2 ha) ha)
      isplitl [HT]; · iexact HT
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      iintro ⟨HT, H0, H1, H2, H3, H4, H5, H6, H7⟩
      isplitl [HΦ HT]
      · isplitl [HΦ]; · iexact HΦ
        iexact HT
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · iapply (leaves6 m c t)
        rw [h6, show dwStep m c t _ = _ from if_neg ha]
        iexact H6
      iexact H7
  · have hc1 : ¬ k0_cond1 (grid0.coords t) = 1#1 := fun h => h0 ((cond1_iff t).1 h)
    have h6 := dwAt_pos m c t h0
    simp only [before6 m c t h0]
    by_cases ha : act m t
    · rw [show dxAt m c t = _ from if_pos ha, show dlAt m c t = _ from if_pos ha]
      iintro ⟨⟨HΦ, HT⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_later_in c Set.univ (grid0.coords t) _ _ _ _ _ _ _ _ _ _ _ _ _ _ _ _ _ _ (pf0 m 0) (iblk m c 0 t) (iblk m c 1 t) (iblk m c 2 t) (iblk m c 3 t) (iblk m c 4 t) hc1
        (fun h => (cond2_iff_not _ _).1 h ha) ha (dwAt m c (t.val - 1)))
      isplitl [HT]; · iexact HT
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexists _; iexact H7
      iintro ⟨HT, H0, H1, H2, H3, H4, H5, H6, H7⟩
      isplitl [HΦ HT]
      · isplitl [HΦ]; · iexact HΦ
        iexact HT
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · iapply (leaves6 m c t)
        rw [h6, show dwStep m c t _ = _ from if_pos ha]
        iexact H6
      iexact H7
    · rw [show dxAt m c t = _ from if_neg ha, show dlAt m c t = _ from if_neg ha]
      iintro ⟨⟨HΦ, HT⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_later_past c Set.univ (grid0.coords t) _ _ _ _ _ _ _ _ _ _ _ _ _ _ _ _ _ _ (pf0 m 0) (iblk m c 0 t) (iblk m c 1 t) (iblk m c 2 t) (iblk m c 3 t) (iblk m c 4 t) hc1
        ((cond2_iff_not _ _).2 ha) ha (dwAt m c (t.val - 1)))
      isplitl [HT]; · iexact HT
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexists _; iexact H7
      iintro ⟨HT, H0, H1, H2, H3, H4, H5, H6, H7⟩
      isplitl [HΦ HT]
      · isplitl [HΦ]; · iexact HΦ
        iexact HT
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · iapply (leaves6 m c t)
        rw [h6, show dwStep m c t _ = _ from if_neg ha]
        iexact H6
      iexact H7

theorem body_obligation (c : Dev nD) : BodyObligation (dat (F := F) m c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- Every fair execution of @main ends, with every array of the pipeline at what its proof data says, every other buffer
    as the host lines after the region leave it, and every counter at zero. -/
theorem run_main_quiescent : θ_run defs (onTc (τ := τ) (main (F := F))) (s₀ m ρ) (fun r => (Pipeline.FramePost (pcs m) (dats m) 0 (Pipeline.afterTail pcfgs (fun _ => adm m) (dats m) 0 (V0 m) [hostOps1])) r ∧ r.2.sem = fun _ => 0) :=
  Pipeline.θ_run_frameP_around (Q' := _) pcfgs (fun _ => adm m) (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hpf := hpf m) (hΦ := fun _ _ => rfl)

theorem run_main : θ_run defs (onTc (τ := τ) (main (F := F))) (s₀ m ρ) (Pipeline.FramePost (pcs m) (dats m) 0 (Pipeline.afterTail pcfgs (fun _ => adm m) (dats m) 0 (V0 m) [hostOps1])) :=
  (θ_run defs _ _).mono (fun _ h => h.1) (run_main_quiescent m ρ)

/-- THE FRAME: the arguments end unchanged and the counters at zero, from any memory. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.Kernel.Run

end
-- ==== Proof.KernelIdealKit.lean ====
module

public import proofs.«01_k».proof.Proof.Gen.KernelIdeal.Launch
public import Idealize.ShloMosaic.Lib.Pipeline.FrameBody
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp

/-! The kernel's run, first part: the block of `x` each grid point reads (for any table of lengths it lies inside
    `x`), the table the region is entered with, the host lines around the region, and each input window's block. -/

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The block of `x` at a grid point -/

/-- The smaller of a step number and a number that is at least zero, signed, is at most the step number. -/
theorem min_max_le (n : ℕ) (hn : n < 4) (z : BitVec 32) :
    (Scalar.minsi (BitVec.ofNat 32 n) (Scalar.maxsi z 0#32)).toNat ≤ n := by
  have e : (BitVec.ofNat 32 n).toNat = n := by rw [BitVec.toNat_ofNat]; omega
  have en : (BitVec.ofNat 32 n).toInt = (n : ℤ) := by
    rw [BitVec.toInt_eq_toNat_cond, e, if_pos (by omega)]
  unfold Scalar.minsi IntOp.minsi
  split
  · exact e.le
  · next h =>
    rw [BitVec.slt_iff_toInt_lt, en, not_lt] at h
    have h0 : 0 ≤ (Scalar.maxsi z 0#32).toInt := by
      unfold Scalar.maxsi IntOp.maxsi
      split
      · next h => rw [BitVec.slt_iff_toInt_lt] at h; exact h.le
      · exact le_refl _
    rw [BitVec.toInt_eq_toNat_cond] at h h0
    split at h <;> split at h0 <;> omega

/-- The block index of `x` along the steps at point `i`, when the sequence's length is `z`. -/
def xstep (n : ℕ) (z : BitVec 32) : BitVec 32 :=
  Scalar.minsi (BitVec.ofNat 32 n) (Scalar.maxsi (Scalar.subi
    (Scalar.select (Scalar.andi
        (Scalar.cmpi .ne
          (Scalar.subi (Scalar.extui (Scalar.cmpi .sgt (Scalar.subi (Scalar.addi z 512#32) 1#32) 0#32))
            (Scalar.extui (Scalar.cmpi .slt (Scalar.subi (Scalar.addi z 512#32) 1#32) 0#32)))
          (Scalar.subi (Scalar.extui (Scalar.cmpi .sgt 512#32 0#32)) (Scalar.extui (Scalar.cmpi .slt 512#32 0#32))))
        (Scalar.cmpi .ne (Scalar.remsi (Scalar.subi (Scalar.addi z 512#32) 1#32) 512#32) 0#32))
      (Scalar.subi (Scalar.divsi (Scalar.subi (Scalar.addi z 512#32) 1#32) 512#32) 1#32)
      (Scalar.divsi (Scalar.subi (Scalar.addi z 512#32) 1#32) 512#32)) 1#32) 0#32)

/-- The table's word for the sequence of point `i`. -/
def word (pf : pre0.Contents (Elt F)) (i : grid0.Coords) : BitVec 32 :=
  pf.at 0 (Rect.unit (s := S12) (k0_off1 i) S1.size (Gen.k0_off1_inb i)) Gen.numel1_S1

omit [FloatOps F] in
theorem xmap_eq [FloatOps F] (pf : pre0.Contents (Elt F)) (i : grid0.Coords) :
    cc0_transform_0 Gen.k0_off1_inb Gen.numel1_S1 pf i
      = ![(i 0).val, (xstep (i 1).val (word pf i)).toNat, 0] := by
  have h0 : (i 0).val < 12 := (i 0).isLt
  show ![(BitVec.ofNat 32 (i 0).val).toNat, (xstep (i 1).val (word pf i)).toNat, (0#32).toNat] = _
  rw [BitVec.toNat_ofNat, Nat.mod_eq_of_lt (by omega)]
  rfl

theorem xstep_le (n : ℕ) (hn : n < 4) (z : BitVec 32) : (xstep n z).toNat ≤ n := min_max_le n hn _

/-- Whatever the lengths are, every block of `x` lies inside it and moves whole words. -/
theorem ok_all (pf : pre0.Contents (Elt F)) : ok0 pf := by
  intro i
  have h0 : (i 0).val < 12 := (i 0).isLt
  have h1 : (i 1).val < 4 := (i 1).isLt
  have hx := xstep_le (i 1).val h1 (word pf i)
  refine ⟨?_, .inr (Affine.block_words_dvd (of_decide_eq_true rfl) (by decide))⟩
  intro a
  rw [xmap_eq]
  fin_cases a
  · show ((i 0).val + 1) * 1 ≤ 12; omega
  · show ((xstep (i 1).val (word pf i)).toNat + 1) * 512 ≤ 2048; omega
  · show (0 + 1) * 3584 ≤ 3584; omega

variable (m : (ℓ : Loc nD τ sig) → Buf (Elt F) ℓ) (ρ : Dev nD → PrngReg)

/-- The table of lengths as launched, -/
def pf0 : pre0.Contents (Elt F) := fun k => m ((((0 : Dev nD)) : Thread nD τ).loc (pre0.ref k))

/-- an admissible one, as every table is. -/
def adm : (pcfg0 (F := F)).Adm := ⟨pf0 m, ok_all _⟩

/-- The pipeline at it, -/
abbrev cfgA : Pipeline.Cfg sig Λ₀ := cfg0 (adm m)
/-- as the one pipeline of @main. -/
abbrev pcs : Fin 1 → Pipeline.Cfg sig Λ₀ := Pipeline.pin pcfgs fun _ => adm m

/-! ## @main around the region -/

/-- Core `c`'s buffer contents when the region is entered. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main is the host lines before the region, the region, and the host lines after it. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain ([hostOps1].map StableHlo.seq)) :=
  Pipeline.hmainP_around pcfgs 0 defs₀ 𝒱₀ m main [hostOps0] [hostOps1] (by simp only [List.Forall]; exact hostOps0_sub)
    (by simp only [List.Forall]; exact hostOps0_fresh) main_chain

/-- The lines after the region touch the pipeline's arrays and the buffers it passes by, not the table. -/
theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  refine Pipeline.sub_tailRefs _ _ op ((List.forall_iff_forall_mem.mp hostOps1_sub) op hop) ?_
  intro k
  simp only [hostOps1, List.mem_cons, List.mem_nil_iff, or_false] at hop
  rcases hop with rfl | rfl
  all_goals
    fin_cases k
    simp only [StableHlo.unary_bufs, Finset.mem_insert, Finset.mem_singleton, not_or]
    exact ⟨StableHlo.devRef_ne_of_ne (by decide), StableHlo.devRef_ne_of_ne (by decide)⟩

/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.unary_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))

/-- The region is entered with the table of lengths as launched. -/
theorem hpf (c : Dev nD) (k : Fin pre0.K) : V0 m c (Proc.devRef .tc (pre0.ref k)) = (adm m).1 k := by
  fin_cases k
  have hc : c = 0 := Subsingleton.elim _ _
  subst hc
  exact V_main_arg5 m 0

/-- No host operation after the region writes `main_arg2`: it ends as launched. -/
theorem W_main_arg2 (dats : (p : Fin 1) → (c : Dev nD) → Dat τ (Elt F) Unit ℕ (UR sig nD τ) ℕ (pcs m p) c) (c : Dev nD) :
    Pipeline.afterTail pcfgs (fun _ => adm m) dats 0 (V0 m) [hostOps1] c main_arg2 = m ((c : Thread nD τ).loc main_arg2) := by
  unfold Pipeline.afterTail
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes `main_arg3`: it ends as launched. -/
theorem W_main_arg3 (dats : (p : Fin 1) → (c : Dev nD) → Dat τ (Elt F) Unit ℕ (UR sig nD τ) ℕ (pcs m p) c) (c : Dev nD) :
    Pipeline.afterTail pcfgs (fun _ => adm m) dats 0 (V0 m) [hostOps1] c main_arg3 = m ((c : Thread nD τ).loc main_arg3) := by
  unfold Pipeline.afterTail
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host operation after the region writes `main_arg4`: it ends as launched. -/
theorem W_main_arg4 (dats : (p : Fin 1) → (c : Dev nD) → Dat τ (Elt F) Unit ℕ (UR sig nD τ) ℕ (pcs m p) c) (c : Dev nD) :
    Pipeline.afterTail pcfgs (fun _ => adm m) dats 0 (V0 m) [hostOps1] c main_arg4 = m ((c : Thread nD τ).loc main_arg4) := by
  unfold Pipeline.afterTail
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-- No host operation after the region writes `main_arg5`: it ends as launched. -/
theorem W_main_arg5 (dats : (p : Fin 1) → (c : Dev nD) → Dat τ (Elt F) Unit ℕ (UR sig nD τ) ℕ (pcs m p) c) (c : Dev nD) :
    Pipeline.afterTail pcfgs (fun _ => adm m) dats 0 (V0 m) [hostOps1] c main_arg5 = m ((c : Thread nD τ).loc main_arg5) := by
  unfold Pipeline.afterTail
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-! ## The windows' blocks -/

/-- Window `w`'s block at point `t`, read off its array as the region finds it. -/
def iblk (c : Dev nD) (w : Fin (cfgA m).W) (t : Fin (cfgA m).N) : (((cfgA m).win w).xblock ((cfgA m).grid.coords t)).Idx → Elt F ((cfgA m).win w).elt :=
  (((cfgA m).win w).blk t).view.read (Elt F) (V m c (Pipeline.arrRef spec0 w))

/-- Input window 0's current staging buffer holds its block at every point. -/
theorem before0_0_of {c : Dev nD} (dat : Dat τ (Elt F) Unit ℕ (UR sig nD τ) ℕ (cfgA m) c) (hA : dat.A 0 = V m c (Pipeline.arrRef spec0 0))
    (hafter : ∀ t, dat.after 0 t = iblk m c 0 t) (t : Fin (cfgA m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point. -/
theorem before0_1_of {c : Dev nD} (dat : Dat τ (Elt F) Unit ℕ (UR sig nD τ) ℕ (cfgA m) c) (hA : dat.A 1 = V m c (Pipeline.arrRef spec0 1))
    (hafter : ∀ t, dat.after 1 t = iblk m c 1 t) (t : Fin (cfgA m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point. -/
theorem before0_2_of {c : Dev nD} (dat : Dat τ (Elt F) Unit ℕ (UR sig nD τ) ℕ (cfgA m) c) (hA : dat.A 2 = V m c (Pipeline.arrRef spec0 2))
    (hafter : ∀ t, dat.after 2 t = iblk m c 2 t) (t : Fin (cfgA m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point. -/
theorem before0_3_of {c : Dev nD} (dat : Dat τ (Elt F) Unit ℕ (UR sig nD τ) ℕ (cfgA m) c) (hA : dat.A 3 = V m c (Pipeline.arrRef spec0 3))
    (hafter : ∀ t, dat.after 3 t = iblk m c 3 t) (t : Fin (cfgA m).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point. -/
theorem before0_4_of {c : Dev nD} (dat : Dat τ (Elt F) Unit ℕ (UR sig nD τ) ℕ (cfgA m) c) (hA : dat.A 4 = V m c (Pipeline.arrRef spec0 4))
    (hafter : ∀ t, dat.after 4 t = iblk m c 4 t) (t : Fin (cfgA m).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## When the outputs are written back -/

/-- Window 5 is written back at every point. -/
theorem flush0_5 : ∀ t : Fin (cfgA m).N, ((cfgA m).win 5).flush t = true :=
  fun t => (Pipeline.Window.flush_reads (win0 (adm m) 5) rfl 1 (by decide) (by exact (by decide : grid0.fixedAfter reads0_5 1 = true)) (Pipeline.Window.sep_of_coord cc0_transform_5 1 1 (fun _ => rfl) (by decide)) (P := 1) (m := 0) (by decide) rfl t).mpr (Nat.mod_one _)
/-- Window 6 is written back at the last point only. -/
theorem flush0_6 : ∀ t : Fin (cfgA m).N, ((cfgA m).win 6).flush t = true ↔ t.val % 48 = 47 :=
  fun t => Pipeline.Window.flush_const (win0 (adm m) 6) rfl (fun _ _ => rfl) (n := 48) (by decide) rfl t
/-- Window 7 is written back at every point. -/
theorem flush0_7 : ∀ t : Fin (cfgA m).N, ((cfgA m).win 7).flush t = true :=
  fun t => (Pipeline.Window.flush_reads (win0 (adm m) 7) rfl 1 (by decide) (by exact (by decide : grid0.fixedAfter reads0_7 1 = true)) (Pipeline.Window.sep_of_coord cc0_transform_7 1 2 (fun _ => rfl) (by decide)) (P := 1) (m := 0) (by decide) rfl t).mpr (Nat.mod_one _)

/-! ## The frame claim's post from the run's -/

/-- From proof data whose arrays are the region-entry contents, a run to the frame post leaves every argument as launched. -/
theorem frame_of (dats : (p : Fin 1) → (c : Dev nD) → Dat τ (Elt F) Unit ℕ (UR sig nD τ) ℕ (pcs m p) c)
    (hA : ∀ c w, (dats 0 c).A w = V m c (Pipeline.arrRef spec0 w))
    (h : θ_run defs (onTc (τ := τ) (main (F := F))) (s₀ m ρ) (Pipeline.FramePost (pcs m) dats 0 (Pipeline.afterTail pcfgs (fun _ => adm m) dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      (((h c).2 main_arg2 (Pipeline.mem_restRefs_of main_arg2 (by decide) (by exact (by decide : ∀ w, Pipeline.arrRef spec0 w ≠ main_arg2)))).trans (W_main_arg2 m dats c)),
      (((h c).2 main_arg3 (Pipeline.mem_restRefs_of main_arg3 (by decide) (by exact (by decide : ∀ w, Pipeline.arrRef spec0 w ≠ main_arg3)))).trans (W_main_arg3 m dats c)),
      (((h c).2 main_arg4 (Pipeline.mem_restRefs_of main_arg4 (by decide) (by exact (by decide : ∀ w, Pipeline.arrRef spec0 w ≠ main_arg4)))).trans (W_main_arg4 m dats c)),
      (((h c).2 main_arg5 (Pipeline.mem_restRefs_of main_arg5 (by decide) (by exact (by decide : ∀ w, Pipeline.arrRef spec0 w ≠ main_arg5)))).trans (W_main_arg5 m dats c))⟩) h

end Cert.KernelIdeal.Run

end
-- ==== Proof.KernelIdealBody.lean ====
module

public import proofs.«01_k».proof.Proof.KernelIdealKit
public import proofs.«01_k».proof.Proof.Gen.KernelIdeal.Skeleton
public import Idealize.ShloMosaic.Lib.Pipeline.Value

/-! The kernel's run, second part: what the body leaves in each output block at a grid point, as functions of the
    blocks it reads, and the body's triple in each of its four cases — the first grid point or a later one, the
    point's rows inside the sequence or all past its end. -/

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## What the body computes at a point inside the sequence -/

section Vals
variable (i : grid0.Coords) (z : BitVec 32) (x : Vec F S1x512x3584 .fp8e4m3) (sc : Vec F S1x512 .f32) (wt : Vec F S64x3584 .bf16)
  (ids : Vec F S1x8x512 .i32) (dg : Vec F S1x8x512 .bf16)

/-- The first row of the point among the sequence's rows. -/
def start : BitVec 32 := Scalar.muli (BitVec.ofNat 32 (i 1).val) 512#32

/-- The row of scales the point reads. -/
def scRow (s : Vec F S12x2048 .f32) : Vec F S1x512 .f32 :=
  View.ld s (Rect.unit (s := S12x2048) (k0_off2 i) S1x512.size (Gen.k0_off2_inb i))

def v96 : FVec F S8x512 .f32 := k0_pay23 (k0_pay13 x wt sc) (k0_pay15 ids) (k0_pay16 ids) (k0_pay17 ids) (k0_pay18 ids)
  (k0_pay19 ids) (k0_pay20 ids) (k0_pay21 ids) (k0_pay22 x wt sc ids) (Scalar.ofBits .f32 0x00000000#32)
def v99 : FVec F S1x512 .f32 := k0_pay24 (k0_pay12 dg) (k0_pay13 x wt sc) (k0_pay15 ids) (k0_pay16 ids) (k0_pay17 ids) (k0_pay18 ids)
  (k0_pay19 ids) (k0_pay20 ids) (k0_pay21 ids) (k0_pay22 x wt sc ids) (Scalar.ofBits .f32 0x00000000#32)
def v111 : FVec F S8x512 .f32 := k0_pay26 z (k0_pay12 dg) (v96 x sc wt ids) (v99 x sc wt ids dg) (k0_pay25 (start i))
def v148 : FVec F S64x512 .f32 := k0_pay27 z (k0_pay12 dg) (k0_pay14 ids) (k0_pay15 ids) (k0_pay16 ids) (k0_pay17 ids) (k0_pay18 ids)
  (k0_pay19 ids) (v96 x sc wt ids) (v99 x sc wt ids dg) (k0_pay25 (start i))
def v153 : FVec F S64x512 .f32 := k0_pay28 z (k0_pay12 dg) (k0_pay20 ids) (v96 x sc wt ids) (v99 x sc wt ids dg) (k0_pay25 (start i))

/-- The point's block of the gradient in the logits, -/
def outDl : Vec F S1x64x512 .f32 := k0_pay5 (k0_pay21 ids) (v111 i z x sc wt ids dg) (v148 i z x sc wt ids dg) (v153 i z x sc wt ids dg)
/-- its block of the gradient in `x`, -/
def outDx : Vec F S1x512x3584 .bf16 := k0_pay8 (k0_pay10 wt) (k0_pay21 ids) (v111 i z x sc wt ids dg) (v148 i z x sc wt ids dg) (v153 i z x sc wt ids dg)
/-- and the running gradient in the weights, its own part added. -/
def outDw (old : Vec F S64x3584 .f32) : Vec F S64x3584 .f32 :=
  k0_pay7 (k0_pay9 x) sc (k0_pay21 ids) (v111 i z x sc wt ids dg) (v148 i z x sc wt ids dg) (v153 i z x sc wt ids dg) old

end Vals

/-! ## The body's triples -/

section Triples
variable (c : Dev nD) (E : Set ℕ) (i : grid0.Coords)
  (arg2 : Memref sig .tc .smem S12 .i32) (harg2 : arg2.IsWhole) (arg3 : Memref sig .tc .vmem S1x512x3584 .fp8e4m3) (harg3 : arg3.IsWhole)
  (arg4 : Memref sig .tc .vmem S12x2048 .f32) (harg4 : arg4.IsWhole) (arg5 : Memref sig .tc .vmem S64x3584 .bf16) (harg5 : arg5.IsWhole)
  (arg6 : Memref sig .tc .vmem S1x8x512 .i32) (harg6 : arg6.IsWhole) (arg7 : Memref sig .tc .vmem S1x8x512 .bf16) (harg7 : arg7.IsWhole)
  (arg8 : Memref sig .tc .vmem S1x512x3584 .bf16) (harg8 : arg8.IsWhole) (arg9 : Memref sig .tc .vmem S64x3584 .f32) (harg9 : arg9.IsWhole)
  (arg10 : Memref sig .tc .vmem S1x64x512 .f32) (harg10 : arg10.IsWhole)
  (tb : Vec F S12 .i32) (x : Vec F S1x512x3584 .fp8e4m3) (s : Vec F S12x2048 .f32) (wt : Vec F S64x3584 .bf16)
  (ids : Vec F S1x8x512 .i32) (dg : Vec F S1x8x512 .bf16)

/-- The table's word at the point, as the body's own load reads it. -/
def wordOf : BitVec 32 := tb ((Rect.unit (s := S12) (k0_off1 i) S1.size (Gen.k0_off1_inb i)).emb (Shape.Idx.first (Gen.numel1_S1.symm ▸ Nat.one_pos)))

/-! A load of a whole block reads it; a store over a whole block leaves its payload. -/

section Whole
variable {κ : Kind} {sp : Space} {S : Shape} {e : EltTy} (v : View sig κ sp S e) {off : Fin S.rank → ℕ} (h : off = fun _ => 0)
  (inb : ∀ a, off a + S.size a ≤ S.size a)

include h in
theorem read_store (f : v.ty.Contents (Elt F)) (w : S.Idx → Elt F e) (L : List (View.Piece (Elt F) S e)) :
    v.read (Elt F) (v.writes (Elt F) f (⟨Rect.unit off S.size inb, w⟩ :: L)) = w :=
  (View.read_writes_eq_canon _ _ _ (fun y => ⟨_, List.mem_cons_self, View.mem_set_unit_zero h inb y⟩)).trans
    (View.canon_cons_unit_zero h inb w L)

include h in
theorem load_whole (f : v.ty.Contents (Elt F)) : v.readAt (Elt F) (Rect.unit off S.size inb).toLoadRect f = v.read (Elt F) f :=
  View.ld_unit_zero h inb (v.read (Elt F) f)
end Whole

theorem z2 : (![0, 0] : Fin 2 → ℕ) = fun _ => 0 := by decide
theorem z3 : (![0, 0, 0] : Fin 3 → ℕ) = fun _ => 0 := by decide

set_option maxHeartbeats 2000000 in
/-- A later point, inside the sequence. -/
theorem sound_later_in (hc1 : ¬ k0_cond1 i = 1#1) (hc2 : ¬ k0_cond2 i (wordOf i tb) = 1#1) (hc3 : k0_cond3 i (wordOf i tb) = 1#1) (old : Vec F S64x3584 .f32) (K : PUnit → sProp 𝕄) :
    iprop(owns (c : Thread nD τ) arg2 fullShare.right tb ∗ owns (c : Thread nD τ) arg3 fullShare x ∗ owns (c : Thread nD τ) arg4 fullShare s
        ∗ owns (c : Thread nD τ) arg5 fullShare wt ∗ owns (c : Thread nD τ) arg6 fullShare ids ∗ owns (c : Thread nD τ) arg7 fullShare dg
        ∗ (∃ d, owns (c : Thread nD τ) arg8 fullShare d) ∗ owns (c : Thread nD τ) arg9 fullShare old ∗ (∃ d, owns (c : Thread nD τ) arg10 fullShare d)
        ∗ (iprop(owns (c : Thread nD τ) arg2 fullShare.right tb ∗ owns (c : Thread nD τ) arg3 fullShare x ∗ owns (c : Thread nD τ) arg4 fullShare s
            ∗ owns (c : Thread nD τ) arg5 fullShare wt ∗ owns (c : Thread nD τ) arg6 fullShare ids ∗ owns (c : Thread nD τ) arg7 fullShare dg
            ∗ owns (c : Thread nD τ) arg8 fullShare (outDx i (wordOf i tb) x (scRow i s) wt ids dg)
            ∗ owns (c : Thread nD τ) arg9 fullShare (outDw i (wordOf i tb) x (scRow i s) wt ids dg old)
            ∗ owns (c : Thread nD τ) arg10 fullShare (outDl i (wordOf i tb) x (scRow i s) wt ids dg)) -∗ K ⟨⟩))
      ⊢ wp frame (wpE (defs₀ (F := F)) Variants.none c none) E
          (cc0_router_backward i arg2 harg2 arg3 harg3 arg4 harg4 arg5 harg5 arg6 harg6 arg7 harg7 arg8 harg8 arg9 harg9 arg10 harg10) K := by
  simp only [cc0_router_backward_eq_skeleton, k0_part1_eq_skeleton, k0_part2_eq_skeleton, k0_part3_eq_skeleton]; unfold cc0_router_backward_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%d10, %f10, -, H10⟩, Hk⟩
  subst hf2 hf3 hf4 hf5 hf6 hf7 hf9
  sl_exec (disch := first | sl_exact hc1 | sl_exact hc2 | sl_exact hc3)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    refine (read_store _ z3 _ _ _ _).trans ?_
    rw [← load_whole arg3.view z3 inb_S1x512x3584_S1x512x3584_0_0_0 f3, ← load_whole arg5.view z2 inb_S64x3584_S64x3584_0_0 f5, ← load_whole arg6.view z3 inb_S1x8x512_S1x8x512_0_0_0 f6, ← load_whole arg7.view z3 inb_S1x8x512_S1x8x512_0_0_0 f7]; rfl
  isplitl [H9]
  · iexists _; isplitr
    swap; · iexact H9
    ipureintro
    refine (read_store _ z2 _ _ _ _).trans ?_
    rw [← load_whole arg9.view z2 inb_S64x3584_S64x3584_0_0 f9]; rw [← load_whole arg3.view z3 inb_S1x512x3584_S1x512x3584_0_0_0 f3, ← load_whole arg5.view z2 inb_S64x3584_S64x3584_0_0 f5, ← load_whole arg6.view z3 inb_S1x8x512_S1x8x512_0_0_0 f6, ← load_whole arg7.view z3 inb_S1x8x512_S1x8x512_0_0_0 f7]; rfl
  iexists _; isplitr
  swap; · iexact H10
  ipureintro
  refine (read_store _ z3 _ _ _ _).trans ?_
  rw [← load_whole arg3.view z3 inb_S1x512x3584_S1x512x3584_0_0_0 f3, ← load_whole arg5.view z2 inb_S64x3584_S64x3584_0_0 f5, ← load_whole arg6.view z3 inb_S1x8x512_S1x8x512_0_0_0 f6, ← load_whole arg7.view z3 inb_S1x8x512_S1x8x512_0_0_0 f7]; rfl

set_option maxHeartbeats 2000000 in
/-- The first point, inside the sequence. -/
theorem sound_first_in (hc1 : k0_cond1 i = 1#1) (hc2 : ¬ k0_cond2 i (wordOf i tb) = 1#1) (hc3 : k0_cond3 i (wordOf i tb) = 1#1) (K : PUnit → sProp 𝕄) :
    iprop(owns (c : Thread nD τ) arg2 fullShare.right tb ∗ owns (c : Thread nD τ) arg3 fullShare x ∗ owns (c : Thread nD τ) arg4 fullShare s
        ∗ owns (c : Thread nD τ) arg5 fullShare wt ∗ owns (c : Thread nD τ) arg6 fullShare ids ∗ owns (c : Thread nD τ) arg7 fullShare dg
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare.right tb ∗ owns (c : Thread nD τ) arg3 fullShare x ∗ owns (c : Thread nD τ) arg4 fullShare s
            ∗ owns (c : Thread nD τ) arg5 fullShare wt ∗ owns (c : Thread nD τ) arg6 fullShare ids ∗ owns (c : Thread nD τ) arg7 fullShare dg
            ∗ owns (c : Thread nD τ) arg8 fullShare (outDx i (wordOf i tb) x (scRow i s) wt ids dg)
            ∗ owns (c : Thread nD τ) arg9 fullShare (outDw i (wordOf i tb) x (scRow i s) wt ids dg k0_pay1)
            ∗ owns (c : Thread nD τ) arg10 fullShare (outDl i (wordOf i tb) x (scRow i s) wt ids dg)) -∗ K ⟨⟩))
      ⊢ wp frame (wpE (defs₀ (F := F)) Variants.none c none) E
          (cc0_router_backward i arg2 harg2 arg3 harg3 arg4 harg4 arg5 harg5 arg6 harg6 arg7 harg7 arg8 harg8 arg9 harg9 arg10 harg10) K := by
  simp only [cc0_router_backward_eq_skeleton, k0_part1_eq_skeleton, k0_part2_eq_skeleton, k0_part3_eq_skeleton]; unfold cc0_router_backward_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf2 hf3 hf4 hf5 hf6 hf7
  sl_exec (disch := first | sl_exact hc1 | sl_exact hc2 | sl_exact hc3)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    refine (read_store _ z3 _ _ _ _).trans ?_
    rw [← load_whole arg3.view z3 inb_S1x512x3584_S1x512x3584_0_0_0 f3, ← load_whole arg5.view z2 inb_S64x3584_S64x3584_0_0 f5, ← load_whole arg6.view z3 inb_S1x8x512_S1x8x512_0_0_0 f6, ← load_whole arg7.view z3 inb_S1x8x512_S1x8x512_0_0_0 f7]; rfl
  isplitl [H9]
  · iexists _; isplitr
    swap; · iexact H9
    ipureintro
    refine (read_store _ z2 _ _ _ _).trans ?_
    rw [← View.readCov_unit_zero (Val := Elt F) arg9.view z2 inb_S64x3584_S64x3584_0_0 (k0_pay1 (F := F))]; rw [← load_whole arg3.view z3 inb_S1x512x3584_S1x512x3584_0_0_0 f3, ← load_whole arg5.view z2 inb_S64x3584_S64x3584_0_0 f5, ← load_whole arg6.view z3 inb_S1x8x512_S1x8x512_0_0_0 f6, ← load_whole arg7.view z3 inb_S1x8x512_S1x8x512_0_0_0 f7]; rfl
  iexists _; isplitr
  swap; · iexact H10
  ipureintro
  refine (read_store _ z3 _ _ _ _).trans ?_
  rw [← load_whole arg3.view z3 inb_S1x512x3584_S1x512x3584_0_0_0 f3, ← load_whole arg5.view z2 inb_S64x3584_S64x3584_0_0 f5, ← load_whole arg6.view z3 inb_S1x8x512_S1x8x512_0_0_0 f6, ← load_whole arg7.view z3 inb_S1x8x512_S1x8x512_0_0_0 f7]; rfl

set_option maxHeartbeats 2000000 in
/-- A later point, past the end of the sequence. -/
theorem sound_later_past (hc1 : ¬ k0_cond1 i = 1#1) (hc2 : k0_cond2 i (wordOf i tb) = 1#1) (hc3 : ¬ k0_cond3 i (wordOf i tb) = 1#1) (old : Vec F S64x3584 .f32) (K : PUnit → sProp 𝕄) :
    iprop(owns (c : Thread nD τ) arg2 fullShare.right tb ∗ owns (c : Thread nD τ) arg3 fullShare x ∗ owns (c : Thread nD τ) arg4 fullShare s
        ∗ owns (c : Thread nD τ) arg5 fullShare wt ∗ owns (c : Thread nD τ) arg6 fullShare ids ∗ owns (c : Thread nD τ) arg7 fullShare dg
        ∗ (∃ d, owns (c : Thread nD τ) arg8 fullShare d) ∗ owns (c : Thread nD τ) arg9 fullShare old ∗ (∃ d, owns (c : Thread nD τ) arg10 fullShare d)
        ∗ (iprop(owns (c : Thread nD τ) arg2 fullShare.right tb ∗ owns (c : Thread nD τ) arg3 fullShare x ∗ owns (c : Thread nD τ) arg4 fullShare s
            ∗ owns (c : Thread nD τ) arg5 fullShare wt ∗ owns (c : Thread nD τ) arg6 fullShare ids ∗ owns (c : Thread nD τ) arg7 fullShare dg
            ∗ owns (c : Thread nD τ) arg8 fullShare k0_pay2
            ∗ owns (c : Thread nD τ) arg9 fullShare old
            ∗ owns (c : Thread nD τ) arg10 fullShare k0_pay3) -∗ K ⟨⟩))
      ⊢ wp frame (wpE (defs₀ (F := F)) Variants.none c none) E
          (cc0_router_backward i arg2 harg2 arg3 harg3 arg4 harg4 arg5 harg5 arg6 harg6 arg7 harg7 arg8 harg8 arg9 harg9 arg10 harg10) K := by
  simp only [cc0_router_backward_eq_skeleton, k0_part1_eq_skeleton, k0_part2_eq_skeleton, k0_part3_eq_skeleton]; unfold cc0_router_backward_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%d10, %f10, -, H10⟩, Hk⟩
  subst hf2 hf3 hf4 hf5 hf6 hf7 hf9
  sl_exec (disch := first | sl_exact hc1 | sl_exact hc2 | sl_exact hc3)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    refine (read_store _ z3 _ _ _ _).trans ?_
    rfl
  isplitl [H9]
  · iexists _; isplitr
    swap; · iexact H9
    ipureintro
    rfl
  iexists _; isplitr
  swap; · iexact H10
  ipureintro
  refine (read_store _ z3 _ _ _ _).trans ?_
  rfl

set_option maxHeartbeats 2000000 in
/-- The first point, past the end of the sequence. -/
theorem sound_first_past (hc1 : k0_cond1 i = 1#1) (hc2 : k0_cond2 i (wordOf i tb) = 1#1) (hc3 : ¬ k0_cond3 i (wordOf i tb) = 1#1) (K : PUnit → sProp 𝕄) :
    iprop(owns (c : Thread nD τ) arg2 fullShare.right tb ∗ owns (c : Thread nD τ) arg3 fullShare x ∗ owns (c : Thread nD τ) arg4 fullShare s
        ∗ owns (c : Thread nD τ) arg5 fullShare wt ∗ owns (c : Thread nD τ) arg6 fullShare ids ∗ owns (c : Thread nD τ) arg7 fullShare dg
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare.right tb ∗ owns (c : Thread nD τ) arg3 fullShare x ∗ owns (c : Thread nD τ) arg4 fullShare s
            ∗ owns (c : Thread nD τ) arg5 fullShare wt ∗ owns (c : Thread nD τ) arg6 fullShare ids ∗ owns (c : Thread nD τ) arg7 fullShare dg
            ∗ owns (c : Thread nD τ) arg8 fullShare k0_pay2
            ∗ owns (c : Thread nD τ) arg9 fullShare k0_pay1
            ∗ owns (c : Thread nD τ) arg10 fullShare k0_pay3) -∗ K ⟨⟩))
      ⊢ wp frame (wpE (defs₀ (F := F)) Variants.none c none) E
          (cc0_router_backward i arg2 harg2 arg3 harg3 arg4 harg4 arg5 harg5 arg6 harg6 arg7 harg7 arg8 harg8 arg9 harg9 arg10 harg10) K := by
  simp only [cc0_router_backward_eq_skeleton, k0_part1_eq_skeleton, k0_part2_eq_skeleton, k0_part3_eq_skeleton]; unfold cc0_router_backward_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf2 hf3 hf4 hf5 hf6 hf7
  sl_exec (disch := first | sl_exact hc1 | sl_exact hc2 | sl_exact hc3)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    refine (read_store _ z3 _ _ _ _).trans ?_
    rfl
  isplitl [H9]
  · iexists _; isplitr
    swap; · iexact H9
    ipureintro
    refine (read_store _ z2 _ _ _ _).trans ?_
    rfl
  iexists _; isplitr
  swap; · iexact H10
  ipureintro
  refine (read_store _ z3 _ _ _ _).trans ?_
  rfl

end Triples

end Cert.KernelIdeal.Run

end
-- ==== Proof.KernelIdealRun.lean ====
module

public import proofs.«01_k».proof.Proof.KernelIdealBody
public import Idealize.ShloMosaic.Lib.Claim

/-! The kernel's run, third part: the pipeline's proof data, the body obligation at every grid point, the run, and the
    frame claim's statement. -/

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The branch conditions -/

/-- Converting a condition to a word and testing it against zero is the condition. -/
theorem cond_of_bool (b : Bool) : Scalar.cmpi .ne (Scalar.extui (BitVec.ofBool b)) 0#32 = 1#1 ↔ b = true := by
  cases b <;> decide

theorem cond2_iff (i : grid0.Coords) (z : BitVec 32) : k0_cond2 i z = 1#1 ↔ z.sle (start i) = true := by
  unfold k0_cond2; exact cond_of_bool _
theorem cond3_iff (i : grid0.Coords) (z : BitVec 32) : k0_cond3 i z = 1#1 ↔ (start i).slt z = true := by
  unfold k0_cond3; exact cond_of_bool _
/-- A point's rows begin past the end exactly when they do not begin inside. -/
theorem cond2_iff_not (i : grid0.Coords) (z : BitVec 32) : k0_cond2 i z = 1#1 ↔ ¬ k0_cond3 i z = 1#1 := by
  rw [cond2_iff, cond3_iff, BitVec.sle_iff_toInt_le, BitVec.slt_iff_toInt_lt, not_lt]

/-- The first branch runs at the first point only. -/
theorem cond1_iff : ∀ t : Fin grid0.N, k0_cond1 (grid0.coords t) = 1#1 ↔ t.val = 0 := by decide +kernel

theorem wordOf_eq (pf : pre0.Contents (Elt F)) (i : grid0.Coords) : wordOf i (pf 0) = word pf i := rfl

/-- The pipeline's own reading of the table's word is the body's. -/
theorem atD_eq (pf : pre0.Contents (Elt F)) (i : grid0.Coords) : pf.atD 0 (k0_off1 i) = word pf i := by
  unfold Pipeline.Prefetch.Contents.atD
  rw [dif_pos (fun a => by fin_cases a; exact Gen.k0_off1_inb i 0)]
  refine congrArg (pf 0) (funext fun a => Fin.ext ?_)
  fin_cases a
  show k0_off1 i 0 = k0_off1 i 0 + 1 * 0
  omega

variable (m : (ℓ : Loc nD τ sig) → Buf (Elt F) ℓ) (ρ : Dev nD → PrngReg)

/-- Whether the rows of point `t` begin inside their sequence. -/
def act (t : Fin (cfgA m).N) : Prop := k0_cond3 (grid0.coords t) (word (pf0 m) (grid0.coords t)) = 1#1
instance (t : Fin (cfgA m).N) : Decidable (act m t) := inferInstanceAs (Decidable (_ = _))

theorem idle5 (t : Fin (cfgA m).N) : (cfgA m).idle 5 ((cfgA m).grid.coords t) = false := by
  show (!(k0_cond2 (grid0.coords t) ((pf0 m).atD 0 (k0_off1 (grid0.coords t))) == 1#1) && !(k0_cond3 (grid0.coords t) ((pf0 m).atD 0 (k0_off1 (grid0.coords t))) == 1#1)) = false
  rw [atD_eq]
  by_cases h : k0_cond3 (grid0.coords t) (word (pf0 m) (grid0.coords t)) = 1#1
  · rw [h]; simp
  · rw [(cond2_iff_not _ _).2 h]; simp
theorem idle7 (t : Fin (cfgA m).N) : (cfgA m).idle 7 ((cfgA m).grid.coords t) = false := idle5 m t
theorem idle6 (t : Fin (cfgA m).N) : (cfgA m).idle 6 ((cfgA m).grid.coords t) = (!(k0_cond1 (grid0.coords t) == 1#1) && !(decide (act m t))) := by
  show (!(k0_cond1 (grid0.coords t) == 1#1) && !(k0_cond3 (grid0.coords t) ((pf0 m).atD 0 (k0_off1 (grid0.coords t))) == 1#1)) = _
  rw [atD_eq]; rfl

theorem N_eq : (cfgA m).N = 48 := by exact (by decide : grid0.N = 48)

/-! ## The proof data -/

/-- The running gradient in the weights after a point, from what it was before. -/
def dwStep (c : Dev nD) (t : Fin (cfgA m).N) (old : Vec F S64x3584 .f32) : Vec F S64x3584 .f32 :=
  if act m t then outDw (grid0.coords t) (word (pf0 m) (grid0.coords t)) (iblk m c 0 t) (scRow (grid0.coords t) (iblk m c 1 t)) (iblk m c 2 t) (iblk m c 3 t) (iblk m c 4 t) old
  else old

/-- The running gradient in the weights after point `n`, from zero. -/
def dwAt (c : Dev nD) : ℕ → Vec F S64x3584 .f32
  | 0 => dwStep m c ⟨0, by rw [N_eq]; decide⟩ k0_pay1
  | n + 1 => if h : n + 1 < (cfgA m).N then dwStep m c ⟨n + 1, h⟩ (dwAt c n) else dwAt c n

/-- The block of the gradient in `x` at a point, -/
def dxAt (c : Dev nD) (t : Fin (cfgA m).N) : Vec F S1x512x3584 .bf16 :=
  if act m t then outDx (grid0.coords t) (word (pf0 m) (grid0.coords t)) (iblk m c 0 t) (scRow (grid0.coords t) (iblk m c 1 t)) (iblk m c 2 t) (iblk m c 3 t) (iblk m c 4 t)
  else k0_pay2
/-- and of the gradient in the logits. -/
def dlAt (c : Dev nD) (t : Fin (cfgA m).N) : Vec F S1x64x512 .f32 :=
  if act m t then outDl (grid0.coords t) (word (pf0 m) (grid0.coords t)) (iblk m c 0 t) (scRow (grid0.coords t) (iblk m c 1 t)) (iblk m c 2 t) (iblk m c 3 t) (iblk m c 4 t)
  else k0_pay3

/-- The pipeline's proof data on core `c`: the arrays as the region finds them; after the body each input's buffer at its
    block, each output's at the functions above; the invariant untouched but for the table, which the body may read. -/
def dat (c : Dev nD) : Dat τ (Elt F) Unit ℕ (UR sig nD τ) ℕ (cfgA m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => dxAt m c t
    | ⟨6, _⟩ => dwAt m c t.val
    | ⟨7, _⟩ => dlAt m c t
  Φ _ := iprop(Pipeline.ΦA spec0 c ∗ Pipeline.ΦT pre0 (adm m).1 c)
  q _ := fullShare
  owed _ := 0

def dats : (p : Fin 1) → (c : Dev nD) → Dat τ (Elt F) Unit ℕ (UR sig nD τ) ℕ (pcs m p) c := fun _ c => dat m c

theorem A_eq (c : Dev nD) (w : Fin (cfgA m).W) : (dat m c).A w = V m c (Pipeline.arrRef spec0 w) := by
  dsimp only [dat]

theorem after0 (c : Dev nD) (t : Fin (cfgA m).N) : (dat m c).after 0 t = iblk m c 0 t := rfl
theorem before0 (c : Dev nD) (t : Fin (cfgA m).N) (d) : (dat m c).before 0 t d = iblk m c 0 t :=
  before0_0_of m (dat m c) (A_eq m c 0) (after0 m c) t d
theorem after1 (c : Dev nD) (t : Fin (cfgA m).N) : (dat m c).after 1 t = iblk m c 1 t := rfl
theorem before1 (c : Dev nD) (t : Fin (cfgA m).N) (d) : (dat m c).before 1 t d = iblk m c 1 t :=
  before0_1_of m (dat m c) (A_eq m c 1) (after1 m c) t d
theorem after2 (c : Dev nD) (t : Fin (cfgA m).N) : (dat m c).after 2 t = iblk m c 2 t := rfl
theorem before2 (c : Dev nD) (t : Fin (cfgA m).N) (d) : (dat m c).before 2 t d = iblk m c 2 t :=
  before0_2_of m (dat m c) (A_eq m c 2) (after2 m c) t d
theorem after3 (c : Dev nD) (t : Fin (cfgA m).N) : (dat m c).after 3 t = iblk m c 3 t := rfl
theorem before3 (c : Dev nD) (t : Fin (cfgA m).N) (d) : (dat m c).before 3 t d = iblk m c 3 t :=
  before0_3_of m (dat m c) (A_eq m c 3) (after3 m c) t d
theorem after4 (c : Dev nD) (t : Fin (cfgA m).N) : (dat m c).after 4 t = iblk m c 4 t := rfl
theorem before4 (c : Dev nD) (t : Fin (cfgA m).N) (d) : (dat m c).before 4 t d = iblk m c 4 t :=
  before0_4_of m (dat m c) (A_eq m c 4) (after4 m c) t d
theorem after5 (c : Dev nD) (t : Fin (cfgA m).N) : (dat m c).after 5 t = dxAt m c t := rfl
theorem after6 (c : Dev nD) (t : Fin (cfgA m).N) : (dat m c).after 6 t = dwAt m c t.val := rfl
theorem after7 (c : Dev nD) (t : Fin (cfgA m).N) : (dat m c).after 7 t = dlAt m c t := rfl

/-! ## The running gradient's buffer between points -/

/-- After a point other than the first: the step from the point before. -/
theorem dwAt_pos (c : Dev nD) (t : Fin (cfgA m).N) (h0 : t.val ≠ 0) : dwAt m c t.val = dwStep m c t (dwAt m c (t.val - 1)) := by
  obtain ⟨n, hn⟩ := t
  cases n with
  | zero => exact absurd rfl h0
  | succ n => exact dif_pos hn

/-- The buffer holds what the point before left at every point but the first. -/
theorem fresh6 : ∀ n : ℕ, n < 48 → n ≠ 0 → (cfgA m).fresh 6 n = false
  | 0, _, h => absurd rfl h
  | n + 1, hn, _ => by
    have hN : n < (cfgA m).N := by show n < 48; omega
    rw [Cfg.fresh_succ (cfgA m) 6 n hN]
    have hf : ((cfgA m).win 6).flush ⟨n, hN⟩ = false := by
      rw [← Bool.not_eq_true, flush0_6]; show ¬ n % 48 = 47; omega
    rw [hf, Bool.false_or]
    by_cases h0 : n = 0
    · subst h0
      rw [idle6, (cond1_iff ⟨0, hN⟩).2 rfl]; rfl
    · rw [fresh6 n (by omega) h0, Bool.and_false]

theorem carry6 (c : Dev nD) (t : Fin (cfgA m).N) (h0 : t.val ≠ 0) (ha : ¬ act m t) : dwAt m c t.val = dwAt m c (t.val - 1) := by
  rw [dwAt_pos m c t h0]; exact if_neg ha

theorem before6 (c : Dev nD) (t : Fin (cfgA m).N) (h0 : t.val ≠ 0) (d) : (dat m c).before 6 t d = dwAt m c (t.val - 1) := by
  rw [(dat m c).before_out_traj 6 rfl (fun _ _ => rfl) (fun t h0 hi hf => by
      rw [after6, after6]
      refine carry6 m c t h0 fun ha => ?_
      rw [idle6, decide_eq_true ha] at hi
      simp at hi) t.val t rfl d, fresh6 m t.val t.isLt h0, if_neg Bool.false_ne_true, after6]

/-! ## The body obligation -/

/-- The current staging memref of each window at point `t`. -/
abbrev st (w : Fin (cfgA m).W) (t : Fin (cfgA m).N) := ((cfgA m).win w).stage ((cfgA m).slots t w)

/-- The kernel body at point `t`, on what the pipeline calls it with. -/
abbrev bodyAt (t : Fin (cfgA m).N) : Prog (TpuEff nD τ sig (Elt F) Λ₀ .tc) PUnit :=
  cc0_router_backward (grid0.coords t) (Memref.whole main_arg5) (Memref.isWhole_whole _)
    (spec0_0.stage ((cfgA m).slots t 0)) (hstage0_0 (((cfgA m).slots t 0).cast nbuf0_0))
    (spec0_1.stage ((cfgA m).slots t 1)) (hstage0_1 (((cfgA m).slots t 1).cast nbuf0_1))
    (spec0_2.stage ((cfgA m).slots t 2)) (hstage0_2 (((cfgA m).slots t 2).cast nbuf0_2))
    (spec0_3.stage ((cfgA m).slots t 3)) (hstage0_3 (((cfgA m).slots t 3).cast nbuf0_3))
    (spec0_4.stage ((cfgA m).slots t 4)) (hstage0_4 (((cfgA m).slots t 4).cast nbuf0_4))
    (spec0_5.stage ((cfgA m).slots t 5)) (hstage0_5 (((cfgA m).slots t 5).cast nbuf0_5))
    (spec0_6.stage ((cfgA m).slots t 6)) (hstage0_6 (((cfgA m).slots t 6).cast nbuf0_6))
    (spec0_7.stage ((cfgA m).slots t 7)) (hstage0_7 (((cfgA m).slots t 7).cast nbuf0_7))

theorem defs₀_row (t : Fin (cfgA m).N) :
    defs₀ (F := F) .tc (cfgA m).body ((cfgA m).bodyArgs t ((cfgA m).slots t)) = bodyAt m t := by
  unfold defs₀; rw [Defs.onTc_tc]

/-- The body's share of the table is the table's buffer owned. -/
theorem table_eq (c : Dev nD) : (Pipeline.ΦT pre0 (adm m).1 c : sProp 𝕄)
    = owns (c : Thread nD τ) (Memref.whole main_arg5) fullShare.right (pf0 m 0) := by
  unfold Pipeline.ΦT Pipeline.prefHeld
  rw [show (Finset.univ : Finset (Fin pre0.K)) = {0} from by decide, bigSep_singleton]
  exact (owns_whole (c : Thread nD τ) main_arg5 fullShare.right (pf0 m 0)).symm

def bodyPre (c : Dev nD) (t : Fin (cfgA m).N) : sProp 𝕄 :=
  iprop((dat m c).Φ t.castSucc ∗ (dat m c).owesAt () t.castSucc
    ∗ (∃ d, owns (c : Thread nD τ) (st m 0 t) fullShare ((dat m c).before 0 t d))
    ∗ (∃ d, owns (c : Thread nD τ) (st m 1 t) fullShare ((dat m c).before 1 t d))
    ∗ (∃ d, owns (c : Thread nD τ) (st m 2 t) fullShare ((dat m c).before 2 t d))
    ∗ (∃ d, owns (c : Thread nD τ) (st m 3 t) fullShare ((dat m c).before 3 t d))
    ∗ (∃ d, owns (c : Thread nD τ) (st m 4 t) fullShare ((dat m c).before 4 t d))
    ∗ (∃ d, owns (c : Thread nD τ) (st m 5 t) fullShare ((dat m c).before 5 t d))
    ∗ (∃ d, owns (c : Thread nD τ) (st m 6 t) fullShare ((dat m c).before 6 t d))
    ∗ (∃ d, owns (c : Thread nD τ) (st m 7 t) fullShare ((dat m c).before 7 t d)))

def bodyPost (c : Dev nD) (t : Fin (cfgA m).N) : sProp 𝕄 :=
  iprop((dat m c).Φ t.succ ∗ (dat m c).owesAt () t.succ
    ∗ owns (c : Thread nD τ) (st m 0 t) fullShare ((dat m c).after 0 t)
    ∗ owns (c : Thread nD τ) (st m 1 t) fullShare ((dat m c).after 1 t)
    ∗ owns (c : Thread nD τ) (st m 2 t) fullShare ((dat m c).after 2 t)
    ∗ owns (c : Thread nD τ) (st m 3 t) fullShare ((dat m c).after 3 t)
    ∗ owns (c : Thread nD τ) (st m 4 t) fullShare ((dat m c).after 4 t)
    ∗ (dat m c).leavesExact 5 t ∗ (dat m c).leavesExact 6 t ∗ (dat m c).leavesExact 7 t)

theorem leaves5 (c : Dev nD) (t : Fin (cfgA m).N) : (dat m c).leavesExact 5 t = (owns (c : Thread nD τ) (st m 5 t) fullShare (dxAt m c t) : sProp 𝕄) := by
  unfold Dat.leavesExact; rw [idle5, after5]
theorem leaves7 (c : Dev nD) (t : Fin (cfgA m).N) : (dat m c).leavesExact 7 t = (owns (c : Thread nD τ) (st m 7 t) fullShare (dlAt m c t) : sProp 𝕄) := by
  unfold Dat.leavesExact; rw [idle7, after7]
theorem leaves6 (c : Dev nD) (t : Fin (cfgA m).N) : (owns (c : Thread nD τ) (st m 6 t) fullShare (dwAt m c t.val) : sProp 𝕄) ⊢ (dat m c).leavesExact 6 t := by
  unfold Dat.leavesExact
  cases hi : (cfgA m).idle 6 ((cfgA m).grid.coords t) with
  | false => dsimp only; rw [after6]
  | true =>
    cases hf : ((cfgA m).win 6).flush t with
    | true => dsimp only; rw [after6]
    | false =>
      dsimp only
      rw [idle6] at hi
      simp only [Bool.and_eq_true, Bool.not_eq_true', beq_eq_false_iff_ne, decide_eq_false_iff_not] at hi
      have h0 : t.val ≠ 0 := fun h => hi.1 ((cond1_iff t).2 h)
      rw [carry6 m c t h0 hi.2]
      have h : (owns (c : Thread nD τ) (st m 6 t) fullShare (dwAt m c (t.val - 1)) : sProp 𝕄)
          ⊢ owns (c : Thread nD τ) (st m 6 t) fullShare ((dat m c).before 6 t (dwAt m c (t.val - 1))) := by
        rw [before6 m c t h0 (dwAt m c (t.val - 1))]
      iintro H
      iexists (dwAt m c (t.val - 1))
      iapply h
      iexact H

theorem sound_body (c : Dev nD) (t : Fin (cfgA m).N) :
    bodyPre m c t ⊢ wp frame (wpE (defs₀ (F := F)) Variants.none c none) Set.univ (bodyAt m t) (fun _ => bodyPost m c t) := by
  unfold bodyPre bodyPost
  simp only [before0, before1, before2, before3, before4]
  rw [show (dat m c).Φ t.succ = (dat m c).Φ t.castSucc from rfl,
    show (dat m c).owesAt () t.succ = (dat m c).owesAt () t.castSucc from rfl,
    after0, after1, after2, after3, after4, leaves5, leaves7,
    show (dat m c).Φ t.castSucc = iprop(Pipeline.ΦA spec0 c ∗ Pipeline.ΦT pre0 (adm m).1 c) from rfl, table_eq]
  by_cases h0 : t.val = 0
  · have hc1 : k0_cond1 (grid0.coords t) = 1#1 := (cond1_iff t).2 h0
    have h6 : dwAt m c t.val = dwStep m c t k0_pay1 := by
      obtain rfl : t = ⟨0, by rw [N_eq]; decide⟩ := Fin.ext h0
      rfl
    by_cases ha : act m t
    · rw [show dxAt m c t = _ from if_pos ha, show dlAt m c t = _ from if_pos ha]
      iintro ⟨⟨HΦ, HT⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_first_in c Set.univ (grid0.coords t) _ _ _ _ _ _ _ _ _ _ _ _ _ _ _ _ _ _ (pf0 m 0) (iblk m c 0 t) (iblk m c 1 t) (iblk m c 2 t) (iblk m c 3 t) (iblk m c 4 t) hc1
        (fun h => (cond2_iff_not _ _).1 h ha) ha)
      isplitl [HT]; · iexact HT
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      iintro ⟨HT, H0, H1, H2, H3, H4, H5, H6, H7⟩
      isplitl [HΦ HT]
      · isplitl [HΦ]; · iexact HΦ
        iexact HT
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · iapply (leaves6 m c t)
        rw [h6, show dwStep m c t _ = _ from if_pos ha]
        iexact H6
      iexact H7
    · rw [show dxAt m c t = _ from if_neg ha, show dlAt m c t = _ from if_neg ha]
      iintro ⟨⟨HΦ, HT⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_first_past c Set.univ (grid0.coords t) _ _ _ _ _ _ _ _ _ _ _ _ _ _ _ _ _ _ (pf0 m 0) (iblk m c 0 t) (iblk m c 1 t) (iblk m c 2 t) (iblk m c 3 t) (iblk m c 4 t) hc1
        ((cond2_iff_not _ _).2 ha) ha)
      isplitl [HT]; · iexact HT
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      iintro ⟨HT, H0, H1, H2, H3, H4, H5, H6, H7⟩
      isplitl [HΦ HT]
      · isplitl [HΦ]; · iexact HΦ
        iexact HT
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · iapply (leaves6 m c t)
        rw [h6, show dwStep m c t _ = _ from if_neg ha]
        iexact H6
      iexact H7
  · have hc1 : ¬ k0_cond1 (grid0.coords t) = 1#1 := fun h => h0 ((cond1_iff t).1 h)
    have h6 := dwAt_pos m c t h0
    simp only [before6 m c t h0]
    by_cases ha : act m t
    · rw [show dxAt m c t = _ from if_pos ha, show dlAt m c t = _ from if_pos ha]
      iintro ⟨⟨HΦ, HT⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_later_in c Set.univ (grid0.coords t) _ _ _ _ _ _ _ _ _ _ _ _ _ _ _ _ _ _ (pf0 m 0) (iblk m c 0 t) (iblk m c 1 t) (iblk m c 2 t) (iblk m c 3 t) (iblk m c 4 t) hc1
        (fun h => (cond2_iff_not _ _).1 h ha) ha (dwAt m c (t.val - 1)))
      isplitl [HT]; · iexact HT
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexists _; iexact H7
      iintro ⟨HT, H0, H1, H2, H3, H4, H5, H6, H7⟩
      isplitl [HΦ HT]
      · isplitl [HΦ]; · iexact HΦ
        iexact HT
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · iapply (leaves6 m c t)
        rw [h6, show dwStep m c t _ = _ from if_pos ha]
        iexact H6
      iexact H7
    · rw [show dxAt m c t = _ from if_neg ha, show dlAt m c t = _ from if_neg ha]
      iintro ⟨⟨HΦ, HT⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_later_past c Set.univ (grid0.coords t) _ _ _ _ _ _ _ _ _ _ _ _ _ _ _ _ _ _ (pf0 m 0) (iblk m c 0 t) (iblk m c 1 t) (iblk m c 2 t) (iblk m c 3 t) (iblk m c 4 t) hc1
        ((cond2_iff_not _ _).2 ha) ha (dwAt m c (t.val - 1)))
      isplitl [HT]; · iexact HT
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexists _; iexact H7
      iintro ⟨HT, H0, H1, H2, H3, H4, H5, H6, H7⟩
      isplitl [HΦ HT]
      · isplitl [HΦ]; · iexact HΦ
        iexact HT
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · iapply (leaves6 m c t)
        rw [h6, show dwStep m c t _ = _ from if_neg ha]
        iexact H6
      iexact H7

theorem body_obligation (c : Dev nD) : BodyObligation (dat (F := F) m c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- Every fair execution of @main ends, with every array of the pipeline at what its proof data says, every other buffer
    as the host lines after the region leave it, and every counter at zero. -/
theorem run_main_quiescent : θ_run defs (onTc (τ := τ) (main (F := F))) (s₀ m ρ) (fun r => (Pipeline.FramePost (pcs m) (dats m) 0 (Pipeline.afterTail pcfgs (fun _ => adm m) (dats m) 0 (V0 m) [hostOps1])) r ∧ r.2.sem = fun _ => 0) :=
  Pipeline.θ_run_frameP_around (Q' := _) pcfgs (fun _ => adm m) (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hpf := hpf m) (hΦ := fun _ _ => rfl)

theorem run_main : θ_run defs (onTc (τ := τ) (main (F := F))) (s₀ m ρ) (Pipeline.FramePost (pcs m) (dats m) 0 (Pipeline.afterTail pcfgs (fun _ => adm m) (dats m) 0 (V0 m) [hostOps1])) :=
  (θ_run defs _ _).mono (fun _ h => h.1) (run_main_quiescent m ρ)

/-- THE FRAME: the arguments end unchanged and the counters at zero, from any memory. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.KernelIdeal.Run

end
-- ==== Proof.Math.lean ====
module

public import Idealize.ShloMosaic.Lib.Pointwise
public import Idealize.ShloMosaic.PureOps.Ideal

/-! The mathematics of one token, over the extended reals, apart from any program: which experts it chose, the gates, and
    the gradient in its logits. Both programs are shown to compute this. -/

@[expose] public section

noncomputable section

namespace Cert.Router

open Idealize.ShloMosaic

/-- Whether the token's `k`-th choice is expert `e`. -/
def hit (id : Fin 8 → BitVec 32) (k : Fin 8) (e : Fin 64) : BitVec 1 := IntOp.cmpi .eq (id k) (BitVec.ofNat 32 e.val)

/-- The logit of the `k`-th choice. -/
def sel (L : Fin 64 → EReal) (id : Fin 8 → BitVec 32) (k : Fin 8) : EReal := ∑ e, Scalar.select (hit id k e) (L e) 0

/-- The greatest of the chosen logits. -/
def top (l : Fin 8 → EReal) : EReal := Finset.fold max (Ideal.ofBits .f32 0xFF800000#32) l Finset.univ

/-- The gate of the `k`-th choice: the softmax of the chosen logits. -/
def gate (l : Fin 8 → EReal) (k : Fin 8) : EReal := Ideal.div (Ideal.exp (l k - top l)) (∑ k', Ideal.exp (l k' - top l))

/-- The gradient in the `k`-th chosen logit, zero for a token past the end. -/
def dsel (ok : BitVec 1) (l dg : Fin 8 → EReal) (k : Fin 8) : EReal :=
  Scalar.select ok (gate l k * (dg k - ∑ k', gate l k' * dg k')) 0

/-- The gradient in the logit of expert `e`. -/
def dlog (ok : BitVec 1) (L : Fin 64 → EReal) (id : Fin 8 → BitVec 32) (dg : Fin 8 → EReal) (e : Fin 64) : EReal :=
  ∑ k, Scalar.select (hit id k e) (dsel ok (sel L id) dg k) 0

/-- A token past the end has no gradient. -/
theorem dlog_past (L : Fin 64 → EReal) (id : Fin 8 → BitVec 32) (dg : Fin 8 → EReal) (e : Fin 64) : dlog 0#1 L id dg e = 0 := by
  refine Finset.sum_eq_zero fun k _ => ?_
  rw [show dsel 0#1 (sel L id) dg k = 0 from rfl]
  unfold Scalar.select; split <;> rfl

/-- The reference compares the maximum with −∞ once more. -/
theorem max_top (l : Fin 8 → EReal) : max (Ideal.ofBits .f32 0xFF800000#32) (Finset.fold max (Ideal.ofBits .f32 0xFF800000#32) l Finset.univ)
    = Finset.fold max (Ideal.ofBits .f32 0xFF800000#32) l Finset.univ := by
  exact max_eq_right ((Finset.le_fold_max _).2 (.inl le_rfl))

/-! ## The three gradients over the whole arrays -/

section Whole
variable (x : (⟨3, ![12, 2048, 3584]⟩ : Shape).Idx → EReal) (sc : (⟨2, ![12, 2048]⟩ : Shape).Idx → EReal) (w : (⟨2, ![3584, 64]⟩ : Shape).Idx → EReal)
  (ids : (⟨3, ![12, 2048, 8]⟩ : Shape).Idx → BitVec 32) (dg : (⟨3, ![12, 2048, 8]⟩ : Shape).Idx → EReal) (len : (⟨1, ![12]⟩ : Shape).Idx → BitVec 32)

/-- The logit of expert `e` at token `s` of sequence `b`. -/
def logit (b : Fin 12) (s : Fin 2048) (e : Fin 64) : EReal := (∑ d : Fin 3584, x (ix3 b s d) * w (ix2 d e)) * sc (ix2 b s)

/-- The gradient in it. -/
def gradL (b : Fin 12) (s : Fin 2048) (e : Fin 64) : EReal :=
  dlog (IntOp.cmpi .slt (BitVec.ofNat 32 s.val) (len (ix1 b))) (logit x sc w b s) (fun k => ids (ix3 b s k)) (fun k => dg (ix3 b s k)) e

/-- The gradient in `x`. -/
def gradX (b : Fin 12) (s : Fin 2048) (d : Fin 3584) : EReal := ∑ e : Fin 64, gradL x sc w ids dg len b s e * w (ix2 d e)

/-- The gradient in the weights. -/
def gradW (d : Fin 3584) (e : Fin 64) : EReal := ∑ b : Fin 12, ∑ s : Fin 2048, x (ix3 b s d) * (gradL x sc w ids dg len b s e * sc (ix2 b s))

end Whole

end Cert.Router

end
-- ==== Proof.Point.lean ====
module

public import proofs.«01_k».proof.Proof.KernelIdealRun
public import proofs.«01_k».proof.Proof.Math

/-! What the kernel's body leaves at one point, element by element. -/

@[expose] public section

set_option maxRecDepth 16384

noncomputable section

namespace Cert.KernelIdeal.Run

open Idealize.ShloMosaic Idealize.ShloMosaic.TcCoe Idealize.ShloMosaic.Tactic
open Cert.KernelIdeal.Gen Cert.Router

section Point
variable (i : grid0.Coords) (z : BitVec 32) (x : Vec Ideal S1x512x3584 .fp8e4m3) (sc : Vec Ideal S1x512 .f32) (wt : Vec Ideal S64x3584 .bf16)
  (ids : Vec Ideal S1x8x512 .i32) (dg : Vec Ideal S1x8x512 .bf16)

/-- The logits of the block's row `j`, its choices, and the gradients in its gates. -/
def bL (j : Fin 512) (e : Fin 64) : EReal := (∑ d : Fin 3584, wt (ix2 e d) * x (ix3 0 j d)) * sc (ix2 0 j)
def bI (j : Fin 512) (k : Fin 8) : BitVec 32 := ids (ix3 0 k j)
def bG (j : Fin 512) (k : Fin 8) : EReal := dg (ix3 0 k j)
/-- Whether row `j` is inside its sequence. -/
def bOk (j : Fin 512) : BitVec 1 := IntOp.cmpi .slt (IntOp.addi (start i) (BitVec.ofNat 32 j.val)) z

theorem logit_apply (e : Fin 64) (j : Fin 512) : k0_pay13 (F := Ideal) x wt sc (ix2 e j) = bL x sc wt j e := by
  pointwise [k0_pay13, k0_pay10, k0_pay9, bL]

theorem hit0 (e : Fin 64) (j : Fin 512) : k0_pay14 (F := Ideal) ids (ix2 e j) = hit (bI ids j) 0 e := by
  pointwise [k0_pay14, k0_pay11, hit, bI]
theorem hit1 (e : Fin 64) (j : Fin 512) : k0_pay15 (F := Ideal) ids (ix2 e j) = hit (bI ids j) 1 e := by
  pointwise [k0_pay15, k0_pay11, hit, bI]
theorem hit2 (e : Fin 64) (j : Fin 512) : k0_pay16 (F := Ideal) ids (ix2 e j) = hit (bI ids j) 2 e := by
  pointwise [k0_pay16, k0_pay11, hit, bI]
theorem hit3 (e : Fin 64) (j : Fin 512) : k0_pay17 (F := Ideal) ids (ix2 e j) = hit (bI ids j) 3 e := by
  pointwise [k0_pay17, k0_pay11, hit, bI]
theorem hit4 (e : Fin 64) (j : Fin 512) : k0_pay18 (F := Ideal) ids (ix2 e j) = hit (bI ids j) 4 e := by
  pointwise [k0_pay18, k0_pay11, hit, bI]
theorem hit5 (e : Fin 64) (j : Fin 512) : k0_pay19 (F := Ideal) ids (ix2 e j) = hit (bI ids j) 5 e := by
  pointwise [k0_pay19, k0_pay11, hit, bI]
theorem hit6 (e : Fin 64) (j : Fin 512) : k0_pay20 (F := Ideal) ids (ix2 e j) = hit (bI ids j) 6 e := by
  pointwise [k0_pay20, k0_pay11, hit, bI]
theorem hit7 (e : Fin 64) (j : Fin 512) : k0_pay21 (F := Ideal) ids (ix2 e j) = hit (bI ids j) 7 e := by
  pointwise [k0_pay21, k0_pay11, hit, bI]

/-- The gates. -/
theorem gate_apply (k : Fin 8) (j : Fin 512) : v96 (F := Ideal) x sc wt ids (ix2 k j) = gate (sel (bL x sc wt j) (bI ids j)) k := by
  unfold v96 k0_pay23
  dsimp only
  generalize hC : concatenate S8x512 0 _ _ = C
  have hc : ∀ k j, C (ix2 k j) = sel (bL x sc wt j) (bI ids j) k := fun k j => by
    rw [← hC]
    pointwise [k0_pay22, hit0, hit1, hit2, hit3, hit4, hit5, hit6, hit7, logit_apply, sel]
    fin_vals k with hk
    all_goals simp only [hk, Nat.reduceSub, Nat.reduceLT, ↓reduceDIte]
    · rw [show k = 0 from Fin.ext hk]
    · rw [show k = 1 from Fin.ext hk]
    · rw [show k = 2 from Fin.ext hk]
    · rw [show k = 3 from Fin.ext hk]
    · rw [show k = 4 from Fin.ext hk]
    · rw [show k = 5 from Fin.ext hk]
    · rw [show k = 6 from Fin.ext hk]
    · rw [show k = 7 from Fin.ext hk]
  pointwise [hc, gate, top]

theorem gsum_apply (j : Fin 512) : v99 (F := Ideal) x sc wt ids dg (ix2 0 j)
    = ∑ k, gate (sel (bL x sc wt j) (bI ids j)) k * bG dg j k := by
  unfold v99 k0_pay24
  rw [show k0_pay23 (F := Ideal) _ _ _ _ _ _ _ _ _ _ = v96 x sc wt ids from rfl]
  pointwise [gate_apply, k0_pay12, bG]

theorem dsel_apply (k : Fin 8) (j : Fin 512) : v111 (F := Ideal) i z x sc wt ids dg (ix2 k j)
    = dsel (bOk i z j) (sel (bL x sc wt j) (bI ids j)) (bG dg j) k := by
  unfold v111
  pointwise [k0_pay26, k0_pay25, gate_apply, gsum_apply, k0_pay12, bG, bOk, dsel]

/-- The gradient in the logits. -/
theorem dlog_apply (e : Fin 64) (j : Fin 512) : k0_pay4 (F := Ideal) (k0_pay21 ids) (v111 i z x sc wt ids dg) (v148 i z x sc wt ids dg) (v153 i z x sc wt ids dg) (ix2 e j)
    = dlog (bOk i z j) (bL x sc wt j) (bI ids j) (bG dg j) e := by
  unfold v148 v153 k0_pay27 k0_pay28
  rw [show k0_pay26 (F := Ideal) _ _ _ _ _ = v111 i z x sc wt ids dg from rfl]
  pointwise [k0_pay4, dsel_apply, hit0, hit1, hit2, hit3, hit4, hit5, hit6, hit7, dlog, Fin.sum_univ_eight]

theorem outDl_apply (e : Fin 64) (j : Fin 512) : outDl (F := Ideal) i z x sc wt ids dg (ix3 0 e j)
    = dlog (bOk i z j) (bL x sc wt j) (bI ids j) (bG dg j) e := by
  unfold outDl
  pointwise [k0_pay5, dlog_apply]

theorem outDx_apply (j : Fin 512) (d : Fin 3584) : outDx (F := Ideal) i z x sc wt ids dg (ix3 0 j d)
    = ∑ e, dlog (bOk i z j) (bL x sc wt j) (bI ids j) (bG dg j) e * wt (ix2 e d) := by
  unfold outDx
  pointwise [k0_pay8, k0_pay6, k0_pay10, dlog_apply]

theorem outDw_apply (old : Vec Ideal S64x3584 .f32) (e : Fin 64) (d : Fin 3584) : outDw (F := Ideal) i z x sc wt ids dg old (ix2 e d)
    = old (ix2 e d) + ∑ j, dlog (bOk i z j) (bL x sc wt j) (bI ids j) (bG dg j) e * sc (ix2 0 j) * x (ix3 0 j d) := by
  unfold outDw
  pointwise [k0_pay7, k0_pay6, k0_pay9, dlog_apply]

end Point

end Cert.KernelIdeal.Run

end
-- ==== Proof.Words.lean ====
module

public import proofs.«01_k».proof.Proof.Point
public import Idealize.ShloMosaic.Lib.Routing.Words

/-! The words the kernel computes with: where a point's rows begin, which of them are inside their sequence, and the
    block of `x` it reads. -/

@[expose] public section

noncomputable section

namespace Cert.KernelIdeal.Run

open Idealize.ShloMosaic Idealize.ShloMosaic.TcCoe Idealize.ShloMosaic.Tactic
open Cert.KernelIdeal.Gen Cert.Router Idealize.ShloMosaic.Routing Idealize.ShloMosaic.WordCmp

/-- At a point whose rows begin inside a sequence of at most `2³¹ − 512` tokens, the block of `x` is the point's own. -/
theorem xstep_of_lt (n : ℕ) (hn : n < 4) (z : BitVec 32) (h : (512 * n : ℤ) < z.toInt) (hz : z.toInt ≤ 2147483136) :
    (xstep n z).toNat = n := by
  obtain ⟨k, rfl, hk, hk'⟩ : ∃ k : ℕ, z = BitVec.ofNat 32 k ∧ 512 * n < k ∧ k ≤ 2147483136 := by
    refine ⟨z.toNat, by simp, ?_, ?_⟩ <;> (rw [BitVec.toInt_eq_toNat_cond] at h hz; split at h <;> omega)
  have hy : Scalar.subi (Scalar.addi (BitVec.ofNat 32 k) 512#32) 1#32 = BitVec.ofNat 32 (k + 511) := by
    show BitVec.ofNat 32 k + 512#32 - 1#32 = _
    apply BitVec.eq_of_toNat_eq
    simp only [BitVec.toNat_sub, BitVec.toNat_add, BitVec.toNat_ofNat]
    omega
  have hd : Scalar.divsi (BitVec.ofNat 32 (k + 511)) 512#32 = BitVec.ofNat 32 ((k + 511) / 512) :=
    divsi_word _ (by omega) (by decide) (by decide)
  have hg : Scalar.cmpi .sgt (BitVec.ofNat 32 (k + 511)) 0#32 = 1#1 := by
    show BitVec.ofBool (decide ((0#32).toInt < (BitVec.ofNat 32 (k + 511)).toInt)) = 1#1
    rw [toInt_ofNat_of_lt (w := 32) (a := k + 511) (by omega), decide_eq_true (by simp; omega)]; rfl
  have hl : Scalar.cmpi .slt (BitVec.ofNat 32 (k + 511)) 0#32 = 0#1 := by
    show BitVec.ofBool (decide ((BitVec.ofNat 32 (k + 511)).toInt < (0#32).toInt)) = 0#1
    rw [toInt_ofNat_of_lt (by omega), decide_eq_false (by simp; omega)]; rfl
  have hs : Scalar.cmpi .ne (Scalar.subi (Scalar.extui 1#1) (Scalar.extui 0#1))
      (Scalar.subi (Scalar.extui (Scalar.cmpi .sgt 512#32 0#32)) (Scalar.extui (Scalar.cmpi .slt 512#32 0#32))) = 0#1 := by decide
  unfold xstep
  rw [hy, hd, hg, hl, hs]
  have ha : ∀ b : BitVec 1, Scalar.andi 0#1 b = 0#1 := by decide
  rw [ha]
  have hq : Scalar.subi (BitVec.ofNat 32 ((k + 511) / 512)) 1#32 = BitVec.ofNat 32 ((k + 511) / 512 - 1) := by
    show BitVec.ofNat 32 _ - 1#32 = _
    apply BitVec.eq_of_toNat_eq
    simp only [BitVec.toNat_sub, BitVec.toNat_ofNat]
    omega
  rw [show ∀ a b : BitVec 32, Scalar.select 0#1 a b = b from fun _ _ => rfl, hq]
  have hm : Scalar.maxsi (BitVec.ofNat 32 ((k + 511) / 512 - 1)) 0#32 = BitVec.ofNat 32 ((k + 511) / 512 - 1) := by
    unfold Scalar.maxsi IntOp.maxsi
    split
    · next e => rfl
    · next e =>
      rw [BitVec.slt_iff_toInt_lt, toInt_ofNat_of_lt (w := 32) (a := (k + 511) / 512 - 1) (by omega)] at e
      simp at e
      rw [show (k + 511) / 512 - 1 = 0 by omega]
  rw [hm]
  unfold Scalar.minsi IntOp.minsi
  split
  · rw [BitVec.toNat_ofNat]; omega
  · next e =>
    rw [BitVec.slt_iff_toInt_lt, toInt_ofNat_of_lt (by omega), toInt_ofNat_of_lt (by omega)] at e
    rw [BitVec.toNat_ofNat]; omega

theorem start_eq (i : grid0.Coords) : start i = BitVec.ofNat 32 (512 * (i 1).val) := by
  have h1 : (i 1).val < 4 := (i 1).isLt
  show BitVec.ofNat 32 (i 1).val * 512#32 = _
  apply BitVec.eq_of_toNat_eq
  simp only [BitVec.toNat_mul, BitVec.toNat_ofNat]
  omega

theorem start_toInt (i : grid0.Coords) : (start i).toInt = 512 * (i 1).val := by
  have h1 : (i 1).val < 4 := (i 1).isLt
  rw [start_eq, toInt_ofNat_of_lt (by omega)]; push_cast; rfl

/-- A row's mask compares its place in the sequence with the length. -/
theorem bOk_eq (i : grid0.Coords) (z : BitVec 32) (j : Fin 512) (s : ℕ) (hs : s = 512 * (i 1).val + j.val) :
    bOk i z j = IntOp.cmpi .slt (BitVec.ofNat 32 s) z := by
  unfold bOk
  rw [start_eq, hs]
  congr 1
  show BitVec.ofNat 32 _ + BitVec.ofNat 32 _ = _
  rw [BitVec.ofNat_add]

/-- Where a point's rows do not begin inside, none of them is inside. -/
theorem mask_past (i : grid0.Coords) (z : BitVec 32) (h : ¬ k0_cond3 i z = 1#1) (j : Fin 512) (s : ℕ) (hs : s = 512 * (i 1).val + j.val) :
    IntOp.cmpi .slt (BitVec.ofNat 32 s) z = 0#1 := by
  have h1 : (i 1).val < 4 := (i 1).isLt
  rw [cond3_iff, BitVec.slt_iff_toInt_lt, start_toInt, not_lt] at h
  rw [cmpi_slt_eq, toInt_ofNat_of_lt (by omega), decide_eq_false (by omega)]; rfl

end Cert.KernelIdeal.Run

end
-- ==== Proof.Blocks.lean ====
module

public import proofs.«01_k».proof.Proof.Words
public import Idealize.ShloMosaic.Lib.Pipeline.ValueKit
public import Idealize.ShloMosaic.Lib.StableHlo.ReadAt

/-! The blocks a grid point reads, element by element, in terms of the six arguments. -/

@[expose] public section

set_option maxRecDepth 16384

noncomputable section

namespace Cert.KernelIdeal.Run

open Idealize.ShloMosaic Idealize.ShloMosaic.TcCoe Idealize.ShloMosaic.Tactic
open Cert.KernelIdeal.Gen Cert.Router

variable (m : (ℓ : Loc nD τ sig) → Buf (Elt Ideal) ℓ) (c : Dev nD)

/-- The sequence and the step of a point. -/
theorem coords0 : ∀ t : Fin grid0.N, ((grid0.coords t) 0).val = t.val / 4 := by decide +kernel
theorem coords1 : ∀ t : Fin grid0.N, ((grid0.coords t) 1).val = t.val % 4 := by decide +kernel

/-- The three arrays the host transposes before the region. -/
theorem V_v0 (e : Fin 64) (d : Fin 3584) : V m c main_v0 (ix2 e d) = m ((c : Thread nD τ).loc main_arg2) (ix2 d e) := by
  unfold V V0
  simp only [List.flatten_cons, List.flatten_nil, List.append_nil]
  after_reads_at
theorem V_v1 (b : Fin 12) (k : Fin 8) (s : Fin 2048) : V m c main_v1 (ix3 b k s) = m ((c : Thread nD τ).loc main_arg3) (ix3 b s k) := by
  unfold V V0
  simp only [List.flatten_cons, List.flatten_nil, List.append_nil]
  after_reads_at
theorem V_v2 (b : Fin 12) (k : Fin 8) (s : Fin 2048) : V m c main_v2 (ix3 b k s) = m ((c : Thread nD τ).loc main_arg4) (ix3 b s k) := by
  unfold V V0
  simp only [List.flatten_cons, List.flatten_nil, List.append_nil]
  after_reads_at

theorem idx3 (i : grid0.Coords) : cc0_transform_3 i = ![(i 0).val, 0, (i 1).val] := by
  have h0 : (i 0).val < 12 := (i 0).isLt
  have h1 : (i 1).val < 4 := (i 1).isLt
  show ![(BitVec.ofNat 32 (i 0).val).toNat, 0, (BitVec.ofNat 32 (i 1).val).toNat] = _
  rw [BitVec.toNat_ofNat, BitVec.toNat_ofNat, Nat.mod_eq_of_lt (by omega), Nat.mod_eq_of_lt (by omega)]

/-- The weights' block is the whole of their transpose. -/
theorem blk2 (t : Fin (cfgA m).N) (e : Fin 64) (d : Fin 3584) :
    (iblk m c 2 t : Vec Ideal S64x3584 .bf16) (ix2 e d) = m ((c : Thread nD τ).loc main_arg2) (ix2 d e) := by
  refine Eq.trans ?_ (V_v0 m c e d)
  show V m c main_v0 ((((cfgA m).win 2).blk t).view.emb (ix2 e d)) = _
  refine congrArg (V m c main_v0) (funext fun a => Fin.ext ?_)
  refine (Pipeline.Window.rect_emb_val ((cfgA m).win 2) t (ix2 e d) a).trans ?_
  rw [show ((cfgA m).win 2).index t = ![0, 0] from rfl]
  fin_cases a
  · show 0 * 64 + e.val = e.val; omega
  · show 0 * 3584 + d.val = d.val; omega

section At
variable (t : Fin (cfgA m).N) (b : Fin 12) (s : Fin 2048) (j : Fin 512) (hb : b.val = ((grid0.coords t) 0).val) (hs : s.val = 512 * ((grid0.coords t) 1).val + j.val)
include hb hs

theorem blk0 (hx : (xstep ((grid0.coords t) 1).val (word (pf0 m) (grid0.coords t))).toNat = ((grid0.coords t) 1).val) (d : Fin 3584) :
    (iblk m c 0 t : Vec Ideal S1x512x3584 .fp8e4m3) (ix3 0 j d) = m ((c : Thread nD τ).loc main_arg0) (ix3 b s d) := by
  refine Eq.trans ?_ (congrFun (V_main_arg0 m c) _)
  show V m c main_arg0 ((((cfgA m).win 0).blk t).view.emb (ix3 0 j d)) = _
  refine congrArg (V m c main_arg0) (funext fun a => Fin.ext ?_)
  refine (Pipeline.Window.rect_emb_val ((cfgA m).win 0) t (ix3 0 j d) a).trans ?_
  have e : ((cfgA m).win 0).index t = ![((grid0.coords t) 0).val, ((grid0.coords t) 1).val, 0] :=
    (xmap_eq (pf0 m) (grid0.coords t)).trans (by rw [hx])
  rw [e]
  fin_cases a
  · show ((grid0.coords t) 0).val * 1 + 0 = b.val; omega
  · show ((grid0.coords t) 1).val * 512 + j.val = s.val; omega
  · show 0 * 3584 + d.val = d.val; omega

theorem blk3 (k : Fin 8) : (iblk m c 3 t : Vec Ideal S1x8x512 .i32) (ix3 0 k j) = m ((c : Thread nD τ).loc main_arg3) (ix3 b s k) := by
  refine Eq.trans ?_ (V_v1 m c b k s)
  show V m c main_v1 ((((cfgA m).win 3).blk t).view.emb (ix3 0 k j)) = _
  refine congrArg (V m c main_v1) (funext fun a => Fin.ext ?_)
  refine (Pipeline.Window.rect_emb_val ((cfgA m).win 3) t (ix3 0 k j) a).trans ?_
  rw [show ((cfgA m).win 3).index t = ![((grid0.coords t) 0).val, 0, ((grid0.coords t) 1).val] from idx3 (grid0.coords t)]
  fin_cases a
  · show ((grid0.coords t) 0).val * 1 + 0 = b.val; omega
  · show 0 * 8 + k.val = k.val; omega
  · show ((grid0.coords t) 1).val * 512 + j.val = s.val; omega

theorem blk4 (k : Fin 8) : (iblk m c 4 t : Vec Ideal S1x8x512 .bf16) (ix3 0 k j) = m ((c : Thread nD τ).loc main_arg4) (ix3 b s k) := by
  refine Eq.trans ?_ (V_v2 m c b k s)
  show V m c main_v2 ((((cfgA m).win 4).blk t).view.emb (ix3 0 k j)) = _
  refine congrArg (V m c main_v2) (funext fun a => Fin.ext ?_)
  refine (Pipeline.Window.rect_emb_val ((cfgA m).win 4) t (ix3 0 k j) a).trans ?_
  rw [show ((cfgA m).win 4).index t = ![((grid0.coords t) 0).val, 0, ((grid0.coords t) 1).val] from idx3 (grid0.coords t)]
  fin_cases a
  · show ((grid0.coords t) 0).val * 1 + 0 = b.val; omega
  · show 0 * 8 + k.val = k.val; omega
  · show ((grid0.coords t) 1).val * 512 + j.val = s.val; omega

theorem blk1 : scRow (grid0.coords t) (iblk m c 1 t) (ix2 0 j) = m ((c : Thread nD τ).loc main_arg1) (ix2 b s) := by
  refine Eq.trans ?_ (congrFun (V_main_arg1 m c) _)
  show V m c main_arg1 ((((cfgA m).win 1).blk t).view.emb ((Rect.unit (s := S12x2048) (k0_off2 (grid0.coords t)) S1x512.size (Gen.k0_off2_inb (grid0.coords t))).emb (ix2 0 j))) = _
  refine congrArg (V m c main_arg1) (funext fun a => Fin.ext ?_)
  refine (Pipeline.Window.rect_emb_val ((cfgA m).win 1) t _ a).trans ?_
  rw [show ((cfgA m).win 1).index t = ![0, 0] from rfl]
  have h0 : k0_off2 (grid0.coords t) 0 = ((grid0.coords t) 0).val := by rw [Gen.k0_off2_eq]; rfl
  have h1 : k0_off2 (grid0.coords t) 1 = 512 * ((grid0.coords t) 1).val := by rw [Gen.k0_off2_eq]; rfl
  fin_cases a
  · show 0 * 12 + (k0_off2 (grid0.coords t) 0 + 1 * 0) = b.val; omega
  · show 0 * 2048 + (k0_off2 (grid0.coords t) 1 + 1 * j.val) = s.val; omega

end At

end Cert.KernelIdeal.Run

end
-- ==== Proof.KernelValue.lean ====
module

public import proofs.«01_k».proof.Proof.Blocks

/-! What each grid point leaves in the three outputs' buffers: its part of the three gradients of the six arguments. -/

@[expose] public section

set_option maxRecDepth 16384

noncomputable section

namespace Cert.Router

open Idealize.ShloMosaic

/-- A sum over tokens, cut into the 48 points' parts: the part of point `n`. -/
def part (G : Fin 12 → Fin 2048 → EReal) (n : ℕ) : EReal :=
  if h : n < 48 then ∑ j : Fin 512, G ⟨n / 4, by omega⟩ ⟨512 * (n % 4) + j.val, by have := j.isLt; omega⟩ else 0

/-- The parts add up to the whole. -/
theorem sum_part (G : Fin 12 → Fin 2048 → EReal) : ∑ n ∈ Finset.range 48, part G n = ∑ b, ∑ s, G b s := by
  rw [Finset.sum_range]
  refine (Fintype.sum_equiv (finProdFinEquiv (m := 12) (n := 4)) (fun p => part G (finProdFinEquiv p).val) (fun n => part G n.val) (fun _ => rfl)).symm.trans ?_
  rw [Fintype.sum_prod_type]
  refine Finset.sum_congr rfl fun b _ => ?_
  refine Eq.trans ?_ (Fintype.sum_equiv (finProdFinEquiv (m := 4) (n := 512)) (fun p => G b (finProdFinEquiv p)) (fun s => G b s) (fun _ => rfl))
  rw [Fintype.sum_prod_type]
  refine Finset.sum_congr rfl fun q _ => ?_
  have hb := b.isLt
  have hq := q.isLt
  have hv : (finProdFinEquiv (b, q)).val = q.val + 4 * b.val := rfl
  unfold part
  rw [dif_pos (by omega)]
  refine Finset.sum_congr rfl fun j _ => ?_
  have hw : (finProdFinEquiv (q, j)).val = j.val + 512 * q.val := rfl
  congr 1
  · apply Fin.ext; show (finProdFinEquiv (b, q)).val / 4 = b.val; omega
  · apply Fin.ext; show 512 * ((finProdFinEquiv (b, q)).val % 4) + j.val = (finProdFinEquiv (q, j)).val; omega

end Cert.Router

namespace Cert.KernelIdeal.Run

open Idealize.ShloMosaic Idealize.ShloMosaic.TcCoe Idealize.ShloMosaic.Tactic
open Cert.KernelIdeal.Gen Cert.Router

variable (m : (ℓ : Loc nD τ sig) → Buf (Elt Ideal) ℓ) (c : Dev nD)

/-- The gradients of the six arguments. -/
abbrev gL : Fin 12 → Fin 2048 → Fin 64 → EReal :=
  gradL (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
abbrev gX : Fin 12 → Fin 2048 → Fin 3584 → EReal :=
  gradX (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
abbrev gW : Fin 3584 → Fin 64 → EReal :=
  gradW (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The length a point reads is its sequence's. -/
theorem word_eq (t : Fin (cfgA m).N) (b : Fin 12) (hb : b.val = ((grid0.coords t) 0).val) :
    word (pf0 m) (grid0.coords t) = m ((c : Thread nD τ).loc main_arg5) (ix1 b) := by
  have hc : c = 0 := Subsingleton.elim _ _
  subst hc
  show m ((((0 : Dev nD)) : Thread nD τ).loc main_arg5) _ = _
  refine congrArg (m ((((0 : Dev nD)) : Thread nD τ).loc main_arg5)) (funext fun a => Fin.ext ?_)
  have h0 : k0_off1 (grid0.coords t) 0 = ((grid0.coords t) 0).val := by rw [Gen.k0_off1_eq]; rfl
  fin_cases a
  show k0_off1 (grid0.coords t) 0 + 1 * 0 = b.val
  omega

section At
variable (t : Fin (cfgA m).N) (b : Fin 12) (s : Fin 2048) (j : Fin 512) (hb : b.val = ((grid0.coords t) 0).val) (hs : s.val = 512 * ((grid0.coords t) 1).val + j.val)
  (hfit : ∀ i : S12.Idx, (m ((c : Thread nD τ).loc main_arg5) i).toInt ≤ 2147483136)
include hb

include hfit in
/-- A point whose rows begin inside reads its own block of `x`. -/
theorem hx_of (ha : act m t) : (xstep ((grid0.coords t) 1).val (word (pf0 m) (grid0.coords t))).toNat = ((grid0.coords t) 1).val := by
  have h1 := (cond3_iff _ _).1 ha
  rw [BitVec.slt_iff_toInt_lt, start_toInt] at h1
  refine xstep_of_lt _ ((grid0.coords t) 1).isLt _ h1 ?_
  rw [word_eq m c t b hb]
  exact hfit _

include hs

include hfit in
theorem logit_blk (ha : act m t) (e : Fin 64) :
    bL (iblk m c 0 t) (scRow (grid0.coords t) (iblk m c 1 t)) (iblk m c 2 t) j e
      = logit (m ((c : Thread nD τ).loc main_arg0)) (m ((c : Thread nD τ).loc main_arg1)) (m ((c : Thread nD τ).loc main_arg2)) b s e := by
  unfold bL logit
  rw [blk1 m c t b s j hb hs]
  refine congrArg (· * _) (Finset.sum_congr rfl fun d _ => ?_)
  refine Eq.trans ?_ (mul_comm _ _)
  exact congrArg₂ _ (blk2 m c t e d) (blk0 m c t b s j hb hs (hx_of m c t b hb hfit ha) d)

include hfit in
/-- The gradient in a logit of a block whose rows begin inside. -/
theorem dlog_blk (ha : act m t) (e : Fin 64) :
    dlog (bOk (grid0.coords t) (word (pf0 m) (grid0.coords t)) j) (bL (iblk m c 0 t) (scRow (grid0.coords t) (iblk m c 1 t)) (iblk m c 2 t) j)
      (bI (iblk m c 3 t) j) (bG (iblk m c 4 t) j) e = gL m c b s e := by
  unfold gL gradL
  rw [bOk_eq _ _ j s.val hs, word_eq m c t b hb,
    show bL (iblk m c 0 t) (scRow (grid0.coords t) (iblk m c 1 t)) (iblk m c 2 t) j = _ from funext fun e => logit_blk m c t b s j hb hs hfit ha e,
    show bI (iblk m c 3 t) j = _ from funext fun k => blk3 m c t b s j hb hs k,
    show bG (iblk m c 4 t) j = _ from funext fun k => blk4 m c t b s j hb hs k]

/-- Where a block's rows do not begin inside, the gradient is zero. -/
theorem grad_past (ha : ¬ act m t) (e : Fin 64) : gL m c b s e = 0 := by
  unfold gL gradL
  rw [← word_eq m c t b hb, mask_past _ _ ha j s.val hs, dlog_past]

include hfit in
theorem dlAt_apply (e : Fin 64) : dlAt m c t (ix3 0 e j) = gL m c b s e := by
  unfold dlAt
  by_cases ha : act m t
  · rw [if_pos ha]
    refine (outDl_apply _ _ _ _ _ _ _ e j).trans ?_
    exact dlog_blk m c t b s j hb hs hfit ha e
  · rw [if_neg ha, grad_past m c t b s j hb hs ha]
    pointwise [k0_pay3]

include hfit in
theorem dxAt_apply (d : Fin 3584) : dxAt m c t (ix3 0 j d) = gX m c b s d := by
  unfold dxAt gX gradX
  by_cases ha : act m t
  · rw [if_pos ha]
    refine (outDx_apply _ _ _ _ _ _ _ j d).trans ?_
    exact Finset.sum_congr rfl fun e _ => congrArg₂ _ (dlog_blk m c t b s j hb hs hfit ha e) (blk2 m c t e d)
  · rw [if_neg ha, Finset.sum_eq_zero fun e _ => by rw [show gradL _ _ _ _ _ _ b s e = 0 from grad_past m c t b s j hb hs ha e, zero_mul]]
    pointwise [k0_pay2]

end At

/-- What token `s` of sequence `b` adds to the gradient in the weights. -/
def tok (d : Fin 3584) (e : Fin 64) (b : Fin 12) (s : Fin 2048) : EReal :=
  gL m c b s e * m ((c : Thread nD τ).loc main_arg1) (ix2 b s) * m ((c : Thread nD τ).loc main_arg0) (ix3 b s d)

variable (hfit : ∀ i : S12.Idx, (m ((c : Thread nD τ).loc main_arg5) i).toInt ≤ 2147483136)
include hfit

/-- A point adds its part. -/
theorem dwStep_apply (t : Fin (cfgA m).N) (old : Vec Ideal S64x3584 .f32) (e : Fin 64) (d : Fin 3584) :
    dwStep m c t old (ix2 e d) = old (ix2 e d) + part (tok m c d e) t.val := by
  have ht : t.val < 48 := t.isLt
  unfold part
  rw [dif_pos ht]
  have h0 := coords0 t
  have h1 := coords1 t
  unfold dwStep
  by_cases ha : act m t
  · rw [if_pos ha]
    refine (outDw_apply _ _ _ _ _ _ _ old e d).trans ?_
    refine congrArg (_ + ·) (Finset.sum_congr rfl fun j _ => ?_)
    have hb : (⟨t.val / 4, by omega⟩ : Fin 12).val = ((grid0.coords t) 0).val := h0.symm
    have hs : (⟨512 * (t.val % 4) + j.val, by have := j.isLt; omega⟩ : Fin 2048).val = 512 * ((grid0.coords t) 1).val + j.val := by rw [h1]
    exact congrArg₂ _ (congrArg₂ _ (dlog_blk m c t _ _ j hb hs hfit ha e) (blk1 m c t _ _ j hb hs))
      (blk0 m c t _ _ j hb hs (hx_of m c t _ hb hfit ha) d)
  · rw [if_neg ha, Finset.sum_eq_zero fun j _ => ?_, add_zero]
    have hb : (⟨t.val / 4, by omega⟩ : Fin 12).val = ((grid0.coords t) 0).val := h0.symm
    have hs : (⟨512 * (t.val % 4) + j.val, by have := j.isLt; omega⟩ : Fin 2048).val = 512 * ((grid0.coords t) 1).val + j.val := by rw [h1]
    unfold tok
    rw [grad_past m c t _ _ j hb hs ha, zero_mul, zero_mul]

/-- The running gradient in the weights is the sum of the parts so far. -/
theorem dwAt_apply (e : Fin 64) (d : Fin 3584) : ∀ n : ℕ, n < 48 →
    dwAt m c n (ix2 e d) = ∑ k ∈ Finset.range (n + 1), part (tok m c d e) k
  | 0, _ => by
    refine (dwStep_apply m c hfit ⟨0, by rw [N_eq]; decide⟩ (k0_pay1 (F := Ideal)) e d).trans ?_
    rw [Finset.sum_range_one, show k0_pay1 (F := Ideal) (ix2 e d) = 0 by pointwise [k0_pay1], zero_add]
  | n + 1, hn => by
    have hN : n + 1 < (cfgA m).N := hn
    rw [Finset.sum_range_succ, ← dwAt_apply e d n (by omega)]
    refine (congrFun (dwAt_pos m c ⟨n + 1, hN⟩ (Nat.succ_ne_zero n)) _).trans ?_
    exact dwStep_apply m c hfit ⟨n + 1, hN⟩ _ e d

/-- After the last point it is the gradient in the weights. -/
theorem dwAt_last (e : Fin 64) (d : Fin 3584) : dwAt m c 47 (ix2 e d) = gW m c d e := by
  rw [dwAt_apply m c hfit e d 47 (by decide), sum_part]
  unfold gW gradW tok
  refine Finset.sum_congr rfl fun b _ => Finset.sum_congr rfl fun s _ => ?_
  exact mul_comm _ _

end Cert.KernelIdeal.Run

end
-- ==== Proof.KernelFinal.lean ====
module

public import proofs.«01_k».proof.Proof.KernelValue

/-! The kernel's run, with its three results. -/

@[expose] public section

set_option maxRecDepth 16384

noncomputable section

namespace Cert.KernelIdeal.Run

open Idealize.ShloMosaic Idealize.ShloMosaic.TcCoe Idealize.ShloMosaic.Tactic
open Cert.KernelIdeal.Gen Cert.Router

variable (m : (ℓ : Loc nD τ sig) → Buf (Elt Ideal) ℓ) (ρ : Dev nD → PrngReg) (c : Dev nD)

/-- The point of a token. -/
def pt (b : Fin 12) (s : Fin 2048) : Fin (cfgA m).N := ⟨4 * b.val + s.val / 512, by rw [N_eq]; omega⟩

theorem pt0 (b : Fin 12) (s : Fin 2048) : ((grid0.coords (pt m b s)) 0).val = b.val := by
  rw [coords0]; show (4 * b.val + s.val / 512) / 4 = b.val; omega
theorem pt1 (b : Fin 12) (s : Fin 2048) : ((grid0.coords (pt m b s)) 1).val = s.val / 512 := by
  rw [coords1]; show (4 * b.val + s.val / 512) % 4 = s.val / 512; omega

theorem idx5 (i : grid0.Coords) : cc0_transform_5 i = ![(i 0).val, (i 1).val, 0] := by
  have h0 : (i 0).val < 12 := (i 0).isLt
  have h1 : (i 1).val < 4 := (i 1).isLt
  show ![(BitVec.ofNat 32 (i 0).val).toNat, (BitVec.ofNat 32 (i 1).val).toNat, 0] = _
  rw [BitVec.toNat_ofNat, BitVec.toNat_ofNat, Nat.mod_eq_of_lt (by omega), Nat.mod_eq_of_lt (by omega)]

/-- Where an element of a block of the first output lies in the array. -/
theorem emb5 (t : Fin (cfgA m).N) (b : Fin 12) (s : Fin 2048) (j : Fin 512) (hb : b.val = ((grid0.coords t) 0).val) (hs : s.val = 512 * ((grid0.coords t) 1).val + j.val)
    (d : Fin 3584) : (((cfgA m).win 5).blk t).view.emb (ix3 0 j d) = (ix3 b s d : S12x2048x3584.Idx) := by
  refine funext fun a => Fin.ext ?_
  refine (Pipeline.Window.rect_emb_val ((cfgA m).win 5) t (ix3 0 j d) a).trans ?_
  rw [show ((cfgA m).win 5).index t = ![((grid0.coords t) 0).val, ((grid0.coords t) 1).val, 0] from idx5 (grid0.coords t)]
  fin_cases a
  · show ((grid0.coords t) 0).val * 1 + 0 = b.val; omega
  · show ((grid0.coords t) 1).val * 512 + j.val = s.val; omega
  · show 0 * 3584 + d.val = d.val; omega

/-- The same of the third. -/
theorem emb7 (t : Fin (cfgA m).N) (b : Fin 12) (s : Fin 2048) (j : Fin 512) (hb : b.val = ((grid0.coords t) 0).val) (hs : s.val = 512 * ((grid0.coords t) 1).val + j.val)
    (e : Fin 64) : (((cfgA m).win 7).blk t).view.emb (ix3 0 e j) = (ix3 b e s : S12x64x2048.Idx) := by
  refine funext fun a => Fin.ext ?_
  refine (Pipeline.Window.rect_emb_val ((cfgA m).win 7) t (ix3 0 e j) a).trans ?_
  rw [show ((cfgA m).win 7).index t = ![((grid0.coords t) 0).val, 0, ((grid0.coords t) 1).val] from idx3 (grid0.coords t)]
  fin_cases a
  · show ((grid0.coords t) 0).val * 1 + 0 = b.val; omega
  · show 0 * 64 + e.val = e.val; omega
  · show ((grid0.coords t) 1).val * 512 + j.val = s.val; omega

/-- The second output's one block is the whole array. -/
theorem emb6 (t : Fin (cfgA m).N) (e : Fin 64) (d : Fin 3584) : (((cfgA m).win 6).blk t).view.emb (ix2 e d) = (ix2 e d : S64x3584.Idx) := by
  refine funext fun a => Fin.ext ?_
  refine (Pipeline.Window.rect_emb_val ((cfgA m).win 6) t (ix2 e d) a).trans ?_
  rw [show ((cfgA m).win 6).index t = ![0, 0] from rfl]
  fin_cases a
  · show 0 * 64 + e.val = e.val; omega
  · show 0 * 3584 + d.val = d.val; omega

/-! Every index by its coordinates. -/

theorem split5 (y : S1x512x3584.Idx) : ∃ (j : Fin 512) (d : Fin 3584), y = ix3 0 j d := by
  idx_vars y
  exact ⟨y1, y2, by rw [Subsingleton.elim y0 0]⟩
theorem split7 (y : S1x64x512.Idx) : ∃ (e : Fin 64) (j : Fin 512), y = ix3 0 e j := by
  idx_vars y
  exact ⟨y1, y2, by rw [Subsingleton.elim y0 0]⟩
theorem split6 (y : S64x3584.Idx) : ∃ (e : Fin 64) (d : Fin 3584), y = ix2 e d := by
  idx_vars y
  exact ⟨_, _, rfl⟩
theorem whole5 (i : S12x2048x3584.Idx) : ∃ (b : Fin 12) (s : Fin 2048) (d : Fin 3584), i = ix3 b s d := by
  idx_vars i
  exact ⟨_, _, _, rfl⟩
theorem whole7 (i : S12x64x2048.Idx) : ∃ (b : Fin 12) (e : Fin 64) (s : Fin 2048), i = ix3 b e s := by
  idx_vars i
  exact ⟨_, _, _, rfl⟩

section Ends
variable (hfit : ∀ i : S12.Idx, (m ((c : Thread nD τ).loc main_arg5) i).toInt ≤ 2147483136)
include hfit

/-- The first output ends as the gradient in `x`. -/
theorem final5 : (dat m c).arrAt 5 (cfgA m).N = fun i : S12x2048x3584.Idx => gX m c (i 0) (i 1) (i 2) := by
  refine (dat m c).arrAt_eq_of_emb 5 (fun i : S12x2048x3584.Idx => gX m c (i 0) (i 1) (i 2)) (fun t _ y => ?_) (fun i => ?_)
  · obtain ⟨j, d, rfl⟩ := split5 y
    have ht : t.val < 48 := t.isLt
    have h0 := coords0 t
    have h1 := coords1 t
    have hb : (⟨t.val / 4, by omega⟩ : Fin 12).val = ((grid0.coords t) 0).val := h0.symm
    have hs : (⟨512 * (t.val % 4) + j.val, by have := j.isLt; omega⟩ : Fin 2048).val = 512 * ((grid0.coords t) 1).val + j.val := by rw [h1]
    rw [emb5 m t _ _ j hb hs d]
    exact dxAt_apply m c t _ _ j hb hs hfit d
  · obtain ⟨b, s, d, rfl⟩ := whole5 i
    refine ⟨pt m b s, flush0_5 m _, ?_⟩
    rw [← emb5 m (pt m b s) b s ⟨s.val % 512, by omega⟩ (pt0 m b s).symm (by rw [pt1]; show s.val = 512 * (s.val / 512) + s.val % 512; omega) d]
    exact View.emb_mem_set _ _

/-- The third ends as the gradient in the logits, transposed. -/
theorem final7 : (dat m c).arrAt 7 (cfgA m).N = fun i : S12x64x2048.Idx => gL m c (i 0) (i 2) (i 1) := by
  refine (dat m c).arrAt_eq_of_emb 7 (fun i : S12x64x2048.Idx => gL m c (i 0) (i 2) (i 1)) (fun t _ y => ?_) (fun i => ?_)
  · obtain ⟨e, j, rfl⟩ := split7 y
    have ht : t.val < 48 := t.isLt
    have h0 := coords0 t
    have h1 := coords1 t
    have hb : (⟨t.val / 4, by omega⟩ : Fin 12).val = ((grid0.coords t) 0).val := h0.symm
    have hs : (⟨512 * (t.val % 4) + j.val, by have := j.isLt; omega⟩ : Fin 2048).val = 512 * ((grid0.coords t) 1).val + j.val := by rw [h1]
    rw [emb7 m t _ _ j hb hs e]
    exact dlAt_apply m c t _ _ j hb hs hfit e
  · obtain ⟨b, e, s, rfl⟩ := whole7 i
    refine ⟨pt m b s, flush0_7 m _, ?_⟩
    rw [← emb7 m (pt m b s) b s ⟨s.val % 512, by omega⟩ (pt0 m b s).symm (by rw [pt1]; show s.val = 512 * (s.val / 512) + s.val % 512; omega) e]
    exact View.emb_mem_set _ _

/-- The second ends as the gradient in the weights, transposed. -/
theorem final6 : (dat m c).arrAt 6 (cfgA m).N = fun i : S64x3584.Idx => gW m c (i 1) (i 0) := by
  refine (dat m c).arrAt_eq_of_emb 6 (fun i : S64x3584.Idx => gW m c (i 1) (i 0)) (fun t hf y => ?_) (fun i => ?_)
  · obtain ⟨e, d, rfl⟩ := split6 y
    have ht : t.val < 48 := t.isLt
    have h47 : t.val = 47 := by have := (flush0_6 m t).1 hf; omega
    rw [emb6 m t e d]
    show dwAt m c t.val (ix2 e d) = gW m c d e
    rw [h47]
    exact dwAt_last m c hfit e d
  · obtain ⟨e, d, rfl⟩ := split6 i
    have hN : 47 < (cfgA m).N := by rw [N_eq]; decide
    refine ⟨⟨47, hN⟩, (flush0_6 m _).2 rfl, ?_⟩
    rw [← emb6 m ⟨47, hN⟩ e d]
    exact View.emb_mem_set _ _

/-- What the host lines after the region start from. -/
abbrev Vend : Valuation τ sig (Elt Ideal) :=
  Pipeline.withArrays spec0 c (V0 m c) fun w => (dat m c).arrAt w (cfgA m).N

theorem tail4 : StableHlo.after (List.flatten [hostOps1]) (Vend m c) (Proc.devRef .tc main_v4) = fun i : S3584x64.Idx => gW m c (i 0) (i 1) := by
  funext i
  idx_vars i
  have hw : Vend m c (Proc.devRef .tc main_v3_1) = _ :=
    (Pipeline.withArrays_arr spec0 (by decide) c (V0 m c) (fun w => (dat m c).arrAt w (cfgA m).N) 6).trans (final6 m c hfit)
  revert hw
  generalize Vend m c = W
  intro hw
  simp only [List.flatten_cons, List.flatten_nil, List.append_nil]
  after_reads_at
  rw [hw]
  rfl

theorem tail5 : StableHlo.after (List.flatten [hostOps1]) (Vend m c) (Proc.devRef .tc main_v5) = fun i : S12x2048x64.Idx => gL m c (i 0) (i 1) (i 2) := by
  funext i
  idx_vars i
  have hw : Vend m c (Proc.devRef .tc main_v3_2) = _ :=
    (Pipeline.withArrays_arr spec0 (by decide) c (V0 m c) (fun w => (dat m c).arrAt w (cfgA m).N) 7).trans (final7 m c hfit)
  revert hw
  generalize Vend m c = W
  intro hw
  simp only [List.flatten_cons, List.flatten_nil, List.append_nil]
  after_reads_at
  rw [hw]
  rfl

end Ends

/-- The kernel's run leaves the three gradients in its results, when every sequence's length is at most `2³¹ − 512`. -/
theorem results (hfit : ∀ (c : Dev nD) (i : S12.Idx), (m ((c : Thread nD τ).loc main_arg5) i).toInt ≤ 2147483136) :
    θ_run defs (onTc (τ := τ) (main (F := Ideal))) ⟨m, fun _ => 0, ρ⟩ (fun r => ∀ c : Dev nD,
      r.2.mem ((c.tc : Thread nD τ).loc main_v3_0) = (fun i : S12x2048x3584.Idx => gX m c (i 0) (i 1) (i 2))
      ∧ r.2.mem ((c.tc : Thread nD τ).loc main_v4) = (fun i : S3584x64.Idx => gW m c (i 0) (i 1))
      ∧ r.2.mem ((c.tc : Thread nD τ).loc main_v5) = (fun i : S12x2048x64.Idx => gL m c (i 0) (i 1) (i 2))) :=
  (θ_run defs _ _).mono (fun r h c =>
   ⟨((h c).1 5).trans (final5 m c (hfit c)),
    ((h c).2 main_v4 (Pipeline.mem_restRefs_of main_v4 (by decide) (by exact (by decide : ∀ w, Pipeline.arrRef spec0 w ≠ main_v4)))).trans (tail4 m c (hfit c)),
    ((h c).2 main_v5 (Pipeline.mem_restRefs_of main_v5 (by decide) (by exact (by decide : ∀ w, Pipeline.arrRef spec0 w ≠ main_v5)))).trans (tail5 m c (hfit c))⟩) (run_main m ρ)

/-- The same, with the arguments unchanged. -/
theorem run (hfit : ∀ (c : Dev nD) (i : S12.Idx), (m ((c : Thread nD τ).loc main_arg5) i).toInt ≤ 2147483136) :
    θ_run defs (onTc (τ := τ) (main (F := Ideal))) ⟨m, fun _ => 0, ρ⟩ (fun r => ∀ c : Dev nD,
      r.2.mem ((c.tc : Thread nD τ).loc main_v3_0) = (fun i : S12x2048x3584.Idx => gX m c (i 0) (i 1) (i 2))
      ∧ r.2.mem ((c.tc : Thread nD τ).loc main_v4) = (fun i : S3584x64.Idx => gW m c (i 0) (i 1))
      ∧ r.2.mem ((c.tc : Thread nD τ).loc main_v5) = (fun i : S12x2048x64.Idx => gL m c (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h.1 c).1, (h.1 c).2.1, (h.1 c).2.2, h.2 c⟩)
    (θ_run_and (results m ρ hfit) (frame_of m ρ (dats m) (A_eq m) (run_main m ρ)))

end Cert.KernelIdeal.Run

end
-- ==== Proof.RefValue.lean ====
module

public import proofs.«01_k».proof.Proof.Gen.ReferenceIdeal.Frame
public import proofs.«01_k».proof.Proof.Math
public import Idealize.ShloMosaic.Lib.StableHlo.ReadAt

/-! The reference's three results, element by element. -/

@[expose] public section

set_option maxRecDepth 16384

noncomputable section

namespace Cert.ReferenceIdeal.Val

open Idealize.ShloMosaic Idealize.ShloMosaic.TcCoe Idealize.ShloMosaic.Tactic
open Cert.ReferenceIdeal.Gen Cert.Router

section Tail
variable (V : Valuation τ sig (Elt Ideal))

/-- The host lines after the region. -/
abbrev tailOps : List (HloOp τ sig (Elt Ideal)) := [hostOps1, hostOps1_1, hostOps1_2, hostOps1_3, hostOps1_4, hostOps1_5, hostOps1_6].flatten

set_option maxHeartbeats 1000000 in
theorem v42_at (b : Fin 12) (s : Fin 2048) (e : Fin 64) :
    StableHlo.after tailOps V (Proc.devRef .tc main_v42) (ix3 b s e)
      = gradL (V (Proc.devRef .tc main_v0)) (V (Proc.devRef .tc main_arg1)) (V (Proc.devRef .tc main_arg2)) (V (Proc.devRef .tc main_arg3))
          (V (Proc.devRef .tc main_arg4)) (V (Proc.devRef .tc main_arg5)) b s e := by
  simp only [tailOps, List.flatten_cons, List.flatten_nil, List.append_nil, List.cons_append, List.nil_append]
  after_reads_at
  simp only [id_eq]
  pointwise
  simp only [max_top]
  unfold gradL dlog dsel gate top sel hit logit
  rfl

set_option maxHeartbeats 1000000 in
theorem v45_at (b : Fin 12) (s : Fin 2048) (d : Fin 3584) :
    StableHlo.after tailOps V (Proc.devRef .tc main_v45) (ix3 b s d)
      = gradX (V (Proc.devRef .tc main_v0)) (V (Proc.devRef .tc main_arg1)) (V (Proc.devRef .tc main_arg2)) (V (Proc.devRef .tc main_arg3))
          (V (Proc.devRef .tc main_arg4)) (V (Proc.devRef .tc main_arg5)) b s d := by
  simp only [tailOps, List.flatten_cons, List.flatten_nil, List.append_nil, List.cons_append, List.nil_append]
  after_reads_at
  simp only [id_eq]
  pointwise
  simp only [max_top]
  unfold gradX gradL dlog dsel gate top sel hit logit
  rfl

set_option maxHeartbeats 1000000 in
theorem v50_at (d : Fin 3584) (e : Fin 64) :
    StableHlo.after tailOps V (Proc.devRef .tc main_v50) (ix2 d e)
      = gradW (V (Proc.devRef .tc main_v0)) (V (Proc.devRef .tc main_arg1)) (V (Proc.devRef .tc main_arg2)) (V (Proc.devRef .tc main_arg3))
          (V (Proc.devRef .tc main_arg4)) (V (Proc.devRef .tc main_arg5)) d e := by
  simp only [tailOps, List.flatten_cons, List.flatten_nil, List.append_nil, List.cons_append, List.nil_append]
  after_reads_at
  simp only [id_eq]
  pointwise
  simp only [max_top]
  unfold gradW gradL dlog dsel gate top sel hit logit
  rfl

end Tail

end Cert.ReferenceIdeal.Val

end
-- ==== Proof.RefFinal.lean ====
module

public import proofs.«01_k».proof.Proof.RefValue
public import Idealize.ShloMosaic.Lib.Pipeline.ValueKit
public import Idealize.ShloMosaic.Lib.Claim

/-! The reference's run, with its three results. -/

@[expose] public section

set_option maxRecDepth 16384

noncomputable section

namespace Cert.ReferenceIdeal.Val

open Idealize.ShloMosaic Idealize.ShloMosaic.TcCoe Idealize.ShloMosaic.Tactic
open Cert.ReferenceIdeal.Gen Cert.Router

variable (m : (ℓ : Loc nD τ sig) → Buf (Elt Ideal) ℓ) (ρ : Dev nD → PrngReg)

/-- The region leaves `x`, widened, in its output: the same extended reals. -/
theorem final_v0 (c : Dev nD) (i : S12x2048x3584.Idx) :
    (dats m 0 c).arrAt 1 cfg0.N i = m ((c : Thread nD τ).loc main_arg0) i := by
  revert i
  refine congrFun ?_
  refine (dats m 0 c).arrAt_eq_of_covers 1 _ (by decide +kernel) fun t hf y => ?_
  blk_simp
  rw [after0_1]
  frame_out
  unfold k0_pay1
  pointwise
  blk_simp [iblk, V_main_arg0]
  rfl

/-- What the host lines after the region start from. -/
abbrev Vend (c : Dev nD) : Valuation τ sig (Elt Ideal) :=
  Pipeline.withArrays spec0 c (V0 m c) fun w => (dats m 0 c).arrAt w cfg0.N

theorem Vend_v0 (c : Dev nD) : (Vend m c (Proc.devRef .tc main_v0) : S12x2048x3584.Idx → EReal) = m ((c : Thread nD τ).loc main_arg0) :=
  (Pipeline.withArrays_arr spec0 (by decide) c (V0 m c) (fun w => (dats m 0 c).arrAt w cfg0.N) 1).trans (funext fun i => final_v0 m c i)

theorem Vend_of_ne (c : Dev nD) (b : Ref sig .tc) (h : ∀ w, Pipeline.arrRef spec0 w ≠ b) : Vend m c (Proc.devRef .tc b) = m ((c : Thread nD τ).loc b) :=
  Pipeline.withArrays_of_ne _ c (V0 m c) _ b h

/-- The gradient in the logits, as an array of the six arguments, -/
def rL (c : Dev nD) : S12x2048x64.Idx → EReal := fun i =>
  gradL (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (i 0) (i 1) (i 2)
/-- in `x` -/
def rX (c : Dev nD) : S12x2048x3584.Idx → EReal := fun i =>
  gradX (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (i 0) (i 1) (i 2)
/-- and in the weights. -/
def rW (c : Dev nD) : S3584x64.Idx → EReal := fun i =>
  gradW (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (i 0) (i 1)

theorem tail_v42 (c : Dev nD) : StableHlo.after tailOps (Vend m c) (Proc.devRef .tc main_v42) = rL m c := by
  funext i
  idx_vars i
  refine (v42_at (Vend m c) _ _ _).trans ?_
  rw [Vend_v0, Vend_of_ne m c main_arg1 (by decide), Vend_of_ne m c main_arg2 (by decide), Vend_of_ne m c main_arg3 (by decide),
    Vend_of_ne m c main_arg4 (by decide), Vend_of_ne m c main_arg5 (by decide)]
  rfl

theorem tail_v45 (c : Dev nD) : StableHlo.after tailOps (Vend m c) (Proc.devRef .tc main_v45) = rX m c := by
  funext i
  idx_vars i
  refine (v45_at (Vend m c) _ _ _).trans ?_
  rw [Vend_v0, Vend_of_ne m c main_arg1 (by decide), Vend_of_ne m c main_arg2 (by decide), Vend_of_ne m c main_arg3 (by decide),
    Vend_of_ne m c main_arg4 (by decide), Vend_of_ne m c main_arg5 (by decide)]
  rfl

theorem tail_v50 (c : Dev nD) : StableHlo.after tailOps (Vend m c) (Proc.devRef .tc main_v50) = rW m c := by
  funext i
  idx_vars i
  refine (v50_at (Vend m c) _ _).trans ?_
  rw [Vend_v0, Vend_of_ne m c main_arg1 (by decide), Vend_of_ne m c main_arg2 (by decide), Vend_of_ne m c main_arg3 (by decide),
    Vend_of_ne m c main_arg4 (by decide), Vend_of_ne m c main_arg5 (by decide)]
  rfl

/-- The reference's run leaves the three gradients in its results. -/
theorem results : θ_run defs (onTc (τ := τ) (main (F := Ideal))) ⟨m, fun _ => 0, ρ⟩ (fun r => ∀ c : Dev nD,
      r.2.mem ((c.tc : Thread nD τ).loc main_v45) = rX m c
      ∧ r.2.mem ((c.tc : Thread nD τ).loc main_v50) = rW m c
      ∧ r.2.mem ((c.tc : Thread nD τ).loc main_v42) = rL m c) :=
  (θ_run defs _ _).mono (fun r h c =>
   ⟨((h c).2 main_v45 (Pipeline.mem_restRefs_of main_v45 (by decide) (by decide))).trans (tail_v45 m c),
    ((h c).2 main_v50 (Pipeline.mem_restRefs_of main_v50 (by decide) (by decide))).trans (tail_v50 m c),
    ((h c).2 main_v42 (Pipeline.mem_restRefs_of main_v42 (by decide) (by decide))).trans (tail_v42 m c)⟩) (run_main m ρ)

/-- The reference's run: its three results are the three gradients, its arguments are unchanged. -/
theorem run : θ_run defs (onTc (τ := τ) (main (F := Ideal))) ⟨m, fun _ => 0, ρ⟩ (fun r => ∀ c : Dev nD,
      r.2.mem ((c.tc : Thread nD τ).loc main_v45) = rX m c
      ∧ r.2.mem ((c.tc : Thread nD τ).loc main_v50) = rW m c
      ∧ r.2.mem ((c.tc : Thread nD τ).loc main_v42) = rL m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h.1 c).1, (h.1 c).2.1, (h.1 c).2.2, h.2 c⟩) (θ_run_and (results m ρ) (unchanged m ρ))

end Cert.ReferenceIdeal.Val

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelRun
public import proofs.«01_k».proof.Proof.Gen.Pre_lens_fit
public import proofs.«01_k».proof.Proof.KernelIdealRun
public import proofs.«01_k».proof.Proof.KernelFinal
public import proofs.«01_k».proof.Proof.RefFinal
public import Idealize.ShloMosaic.Lib.WordCmp
public import Idealize.ShloMosaic.Adequacy
public import Idealize.ShloMosaic.Init

@[expose] public section

noncomputable section

namespace Cert.Proof

open Idealize.ShloMosaic Idealize.SL.Sem Cert.Kernel

/-- The precondition, read: no sequence is longer than `2³¹ − 512`. -/
theorem lens_le (m : (ℓ : Loc Cert.KernelIdeal.nD Cert.KernelIdeal.τ Cert.KernelIdeal.sig) → Buf (Elt Ideal) ℓ)
    (h : Cert.Pre_KernelIdeal_lens_fit (hPre_lens_fit := Cert.Pre_lens_fit.Gen.facts) m)
    (c : Dev Cert.KernelIdeal.nD) (i : Cert.KernelIdeal.S12.Idx) :
    (m ((c.tc : Thread Cert.KernelIdeal.nD Cert.KernelIdeal.τ).loc Cert.KernelIdeal.main_arg5) i).toInt ≤ 2147483136 := by
  have e := congrFun (h c) i
  have e' : IntOp.cmpi .sle (m ((c.tc : Thread Cert.KernelIdeal.nD Cert.KernelIdeal.τ).loc Cert.KernelIdeal.main_arg5) i) 2147483136#32 = 1#1 := e
  rw [WordCmp.cmpi_sle_eq, WordCmp.ofBool_decide_eq_one_iff] at e'
  exact e'

theorem algebraic : Cert.algebraic_KernelIdeal_ReferenceIdeal_pre_lens_fit (hKernelIdeal := Cert.KernelIdeal.Gen.facts)
    (hReferenceIdeal := Cert.ReferenceIdeal.Gen.facts) (hPre_lens_fit := Cert.Pre_lens_fit.Gen.facts) := by
  intro m g m' g' hpre hagree
  refine ⟨_, _, _, Cert.KernelIdeal.Run.run m g (lens_le m hpre), ?_⟩
  refine (θ_run _ _ _).mono (fun _ h c => ?_) (Cert.ReferenceIdeal.Val.run m' g')
  obtain ⟨hx, hw, hl, hargs⟩ := h c
  obtain ⟨a0, a1, a2, a3, a4, a5⟩ := hagree c
  refine ⟨hx.trans ?_, hw.trans ?_, hl.trans ?_, hargs⟩
  · unfold Cert.ReferenceIdeal.Val.rX; rw [a0, a1, a2, a3, a4, a5]
  · unfold Cert.ReferenceIdeal.Val.rW; rw [a0, a1, a2, a3, a4, a5]
  · unfold Cert.ReferenceIdeal.Val.rL; rw [a0, a1, a2, a3, a4, a5]

theorem claim : Cert.Claim := ⟨Cert.Kernel.Gen.facts, Cert.KernelIdeal.Gen.facts, Cert.ReferenceIdeal.Gen.facts, Cert.Pre_lens_fit.Gen.facts,
  fun m g _ => Cert.Kernel.Run.frame m g, fun m g _ => Cert.KernelIdeal.Run.frame m g, fun m g _ => Cert.KernelIdeal.Run.frame m g,
  fun m g _ => Cert.ReferenceIdeal.Gen.frame m g, fun m g _ => Cert.ReferenceIdeal.Gen.frame m g, trivial, algebraic⟩

end Cert.Proof

end
